-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S16x2048 : Shape := ⟨2, ![16, 2048]⟩
abbrev S2x16x512 : Shape := ⟨3, ![2, 16, 512]⟩
abbrev S251x128 : Shape := ⟨2, ![251, 128]⟩
abbrev S51x128 : Shape := ⟨2, ![51, 128]⟩
abbrev S512x384 : Shape := ⟨2, ![512, 384]⟩
abbrev S512x512 : Shape := ⟨2, ![512, 512]⟩
abbrev S512 : Shape := ⟨1, ![512]⟩
abbrev S251x1024 : Shape := ⟨2, ![251, 1024]⟩
abbrev S251 : Shape := ⟨1, ![251]⟩
abbrev S_ : Shape := ⟨0, ![]⟩

class Facts : Prop where
  bcast_S_S16x2048 : S_.BroadcastsInDim S16x2048 (![] : Fin 0 → Fin S16x2048.rank)
  reducesTo_S16x2048_S_d0_1 : S16x2048.ReducesTo [0, 1] S_
  h_S_ : 0 < S_.numel
  bcast_S_S251x1024 : S_.BroadcastsInDim S251x1024 (![] : Fin 0 → Fin S251x1024.rank)
  reducesTo_S251x1024_S_d0_1 : S251x1024.ReducesTo [0, 1] S_
  bcast_S_S251 : S_.BroadcastsInDim S251 (![] : Fin 0 → Fin S251.rank)
  reducesTo_S251_S_d0 : S251.ReducesTo [0] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : IVec S16x2048 32) (main_arg16 : FVec F S251x1024 .f32) (main_arg17 : FVec F S251 .f32) (main_v12 : IVec S_ 1) (main_v14 : IVec S16x2048 1) (main_v15 : IVec S16x2048 32) : IVec S_ 1 :=
  let main_v16 : IVec S16x2048 1 := cmpi .sle main_arg2 main_v15
  let main_v17 : IVec S16x2048 1 := andi main_v14 main_v16
  let main_c_7 : IVec S_ 1 := constantI S_ 1 1#1
  let main_v18 : IVec S_ 1 := (fun x v => Host.reduce IntOp.andi x v reducesTo_S16x2048_S_d0_1 h_S_) main_v17 main_c_7
  let main_v19 : IVec S_ 1 := andi main_v12 main_v18
  let main_cst : FVec F S_ .f32 := constant S_ .f32 0xFF800000#32
  let main_v20 : FVec F S251x1024 .f32 := broadcastInDim S251x1024 ![] bcast_S_S251x1024 main_cst
  let main_v21 : IVec S251x1024 1 := cmpf .ogt main_arg16 main_v20
  let main_cst_8 : FVec F S_ .f32 := constant S_ .f32 0x7F800000#32
  let main_v22 : FVec F S251x1024 .f32 := broadcastInDim S251x1024 ![] bcast_S_S251x1024 main_cst_8
  let main_v23 : IVec S251x1024 1 := cmpf .olt main_arg16 main_v22
  let main_v24 : IVec S251x1024 1 := andi main_v21 main_v23
  let main_c_9 : IVec S_ 1 := constantI S_ 1 1#1
  let main_v25 : IVec S_ 1 := (fun x v => Host.reduce IntOp.andi x v reducesTo_S251x1024_S_d0_1 h_S_) main_v24 main_c_9
  let main_v26 : IVec S_ 1 := andi main_v19 main_v25
  let main_cst_10 : FVec F S_ .f32 := constant S_ .f32 0xFF800000#32
  let main_v27 : FVec F S251 .f32 := broadcastInDim S251 ![] bcast_S_S251 main_cst_10
  let main_v28 : IVec S251 1 := cmpf .ogt main_arg17 main_v27
  let main_cst_11 : FVec F S_ .f32 := constant S_ .f32 0x7F800000#32
  let main_v29 : FVec F S251 .f32 := broadcastInDim S251 ![] bcast_S_S251 main_cst_11
  let main_v30 : IVec S251 1 := cmpf .olt main_arg17 main_v29
  let main_v31 : IVec S251 1 := andi main_v28 main_v30
  let main_c_12 : IVec S_ 1 := constantI S_ 1 1#1
  let main_v32 : IVec S_ 1 := (fun x v => Host.reduce IntOp.andi x v reducesTo_S251_S_d0 h_S_) main_v31 main_c_12
  fn_part2 (F := F) main_v26 main_v32

def fn {F : FTy → Type} [FloatOps F] (main_arg0 : IVec S16x2048 32) (main_arg1 : IVec S16x2048 32) (main_arg2 : IVec S16x2048 32) (main_arg3 : IVec S16x2048 32) (main_arg4 : FVec F S2x16x512 .f32) (main_arg5 : FVec F S251x128 .f32) (main_arg6 : FVec F S51x128 .f32) (main_arg7 : FVec F S51x128 .f32) (main_arg8 : FVec F S512x384 .f32) (main_arg9 : FVec F S512x512 .f32) (main_arg10 : FVec F S512 .f32) (main_arg11 : FVec F S512 .f32) (main_arg12 : FVec F S512x384 .f32) (main_arg13 : FVec F S512x512 .f32) (main_arg14 : FVec F S512 .f32) (main_arg15 : FVec F S512 .f32) (main_arg16 : FVec F S251x1024 .f32) (main_arg17 : FVec F S251 .f32) : IVec S_ 1 :=
  let main_c : IVec S_ 32 := constantI S_ 32 0#32
  let main_v0 : IVec S16x2048 32 := broadcastInDim S16x2048 ![] bcast_S_S16x2048 main_c
  let main_v1 : IVec S16x2048 1 := cmpi .sge main_arg0 main_v0
  let main_c_0 : IVec S_ 32 := constantI S_ 32 250#32
  let main_v2 : IVec S16x2048 32 := broadcastInDim S16x2048 ![] bcast_S_S16x2048 main_c_0
  let main_v3 : IVec S16x2048 1 := cmpi .sle main_arg0 main_v2
  let main_v4 : IVec S16x2048 1 := andi main_v1 main_v3
  let main_c_1 : IVec S_ 1 := constantI S_ 1 1#1
  let main_v5 : IVec S_ 1 := (fun x v => Host.reduce IntOp.andi x v reducesTo_S16x2048_S_d0_1 h_S_) main_v4 main_c_1
  let main_c_2 : IVec S_ 32 := constantI S_ 32 0#32
  let main_v6 : IVec S16x2048 32 := broadcastInDim S16x2048 ![] bcast_S_S16x2048 main_c_2
  let main_v7 : IVec S16x2048 1 := cmpi .sge main_arg1 main_v6
  let main_c_3 : IVec S_ 32 := constantI S_ 32 50#32
  let main_v8 : IVec S16x2048 32 := broadcastInDim S16x2048 ![] bcast_S_S16x2048 main_c_3
  let main_v9 : IVec S16x2048 1 := cmpi .sle main_arg1 main_v8
  let main_v10 : IVec S16x2048 1 := andi main_v7 main_v9
  let main_c_4 : IVec S_ 1 := constantI S_ 1 1#1
  let main_v11 : IVec S_ 1 := (fun x v => Host.reduce IntOp.andi x v reducesTo_S16x2048_S_d0_1 h_S_) main_v10 main_c_4
  let main_v12 : IVec S_ 1 := andi main_v5 main_v11
  let main_c_5 : IVec S_ 32 := constantI S_ 32 0#32
  let main_v13 : IVec S16x2048 32 := broadcastInDim S16x2048 ![] bcast_S_S16x2048 main_c_5
  let main_v14 : IVec S16x2048 1 := cmpi .sge main_arg2 main_v13
  let main_c_6 : IVec S_ 32 := constantI S_ 32 50#32
  let main_v15 : IVec S16x2048 32 := broadcastInDim S16x2048 ![] bcast_S_S16x2048 main_c_6
  fn_part1 (F := F) main_arg2 main_arg16 main_arg17 main_v12 main_v14 main_v15
-- ==== Kernel.lean ====
abbrev S16x2048 : Shape := ⟨2, ![16, 2048]⟩
abbrev S2x16x512 : Shape := ⟨3, ![2, 16, 512]⟩
abbrev S251x128 : Shape := ⟨2, ![251, 128]⟩
abbrev S51x128 : Shape := ⟨2, ![51, 128]⟩
abbrev S512x384 : Shape := ⟨2, ![512, 384]⟩
abbrev S512x512 : Shape := ⟨2, ![512, 512]⟩
abbrev S512 : Shape := ⟨1, ![512]⟩
abbrev S251x1024 : Shape := ⟨2, ![251, 1024]⟩
abbrev S251 : Shape := ⟨1, ![251]⟩
abbrev S2048x16 : Shape := ⟨2, ![2048, 16]⟩
abbrev S2046x16 : Shape := ⟨2, ![2046, 16]⟩
abbrev S2x16 : Shape := ⟨2, ![2, 16]⟩
abbrev S_ : Shape := ⟨0, ![]⟩
abbrev S1 : Shape := ⟨1, ![1]⟩
abbrev S2 : Shape := ⟨1, ![2]⟩
abbrev S384x512 : Shape := ⟨2, ![384, 512]⟩
abbrev S1x512 : Shape := ⟨2, ![1, 512]⟩
abbrev S2048x16x512 : Shape := ⟨3, ![2048, 16, 512]⟩
abbrev S128x16 : Shape := ⟨2, ![128, 16]⟩
abbrev S128x16x512 : Shape := ⟨3, ![128, 16, 512]⟩
abbrev S128x16x1 : Shape := ⟨3, ![128, 16, 1]⟩
abbrev S2048x512 : Shape := ⟨2, ![2048, 512]⟩
abbrev S2048x384 : Shape := ⟨2, ![2048, 384]⟩
abbrev S2048x128 : Shape := ⟨2, ![2048, 128]⟩
abbrev S128x512 : Shape := ⟨2, ![128, 512]⟩
abbrev S1x16x512 : Shape := ⟨3, ![1, 16, 512]⟩
abbrev S16x512 : Shape := ⟨2, ![16, 512]⟩
abbrev S512x256 : Shape := ⟨2, ![512, 256]⟩
abbrev S251x512 : Shape := ⟨2, ![251, 512]⟩
abbrev S512x251 : Shape := ⟨2, ![512, 251]⟩
abbrev S1x256 : Shape := ⟨2, ![1, 256]⟩
abbrev S2048x16x256 : Shape := ⟨3, ![2048, 16, 256]⟩
abbrev S128x16x256 : Shape := ⟨3, ![128, 16, 256]⟩
abbrev S2048x256 : Shape := ⟨2, ![2048, 256]⟩
abbrev S2048 : Shape := ⟨1, ![2048]⟩
abbrev S2048x1 : Shape := ⟨2, ![2048, 1]⟩
abbrev S2046x16x251 : Shape := ⟨3, ![2046, 16, 251]⟩
abbrev S16x2046x251 : Shape := ⟨3, ![16, 2046, 251]⟩

abbrev nBuf : Space → Nat
  | .hbm => 102
  | .vmem => 48
  | .smem => 0
  | _ => 0

abbrev bufTy : (tb : Table) → Fin (tcTables nBuf tb) → BufTy
  | .hbm, ⟨0, _⟩ => ⟨S16x2048, .i32⟩
  | .hbm, ⟨1, _⟩ => ⟨S16x2048, .i32⟩
  | .hbm, ⟨2, _⟩ => ⟨S16x2048, .i32⟩
  | .hbm, ⟨3, _⟩ => ⟨S16x2048, .i32⟩
  | .hbm, ⟨4, _⟩ => ⟨S2x16x512, .f32⟩
  | .hbm, ⟨5, _⟩ => ⟨S251x128, .f32⟩
  | .hbm, ⟨6, _⟩ => ⟨S51x128, .f32⟩
  | .hbm, ⟨7, _⟩ => ⟨S51x128, .f32⟩
  | .hbm, ⟨8, _⟩ => ⟨S512x384, .f32⟩
  | .hbm, ⟨9, _⟩ => ⟨S512x512, .f32⟩
  | .hbm, ⟨10, _⟩ => ⟨S512, .f32⟩
  | .hbm, ⟨11, _⟩ => ⟨S512, .f32⟩
  | .hbm, ⟨12, _⟩ => ⟨S512x384, .f32⟩
  | .hbm, ⟨13, _⟩ => ⟨S512x512, .f32⟩
  | .hbm, ⟨14, _⟩ => ⟨S512, .f32⟩
  | .hbm, ⟨15, _⟩ => ⟨S512, .f32⟩
  | .hbm, ⟨16, _⟩ => ⟨S251x1024, .f32⟩
  | .hbm, ⟨17, _⟩ => ⟨S251, .f32⟩
  | .hbm, ⟨18, _⟩ => ⟨S2048x16, .i32⟩
  | .hbm, ⟨19, _⟩ => ⟨S2048x16, .i32⟩
  | .hbm, ⟨20, _⟩ => ⟨S2048x16, .i32⟩
  | .hbm, ⟨21, _⟩ => ⟨S2046x16, .i32⟩
  | .hbm, ⟨22, _⟩ => ⟨S2x16, .i32⟩
  | .hbm, ⟨23, _⟩ => ⟨S2048x16, .i32⟩
  | .hbm, ⟨24, _⟩ => ⟨S2046x16, .i32⟩
  | .hbm, ⟨25, _⟩ => ⟨S2x16, .i32⟩
  | .hbm, ⟨26, _⟩ => ⟨S2048x16, .i32⟩
  | .hbm, ⟨27, _⟩ => ⟨S2046x16, .i32⟩
  | .hbm, ⟨28, _⟩ => ⟨S2x16, .i32⟩
  | .hbm, ⟨29, _⟩ => ⟨S2048x16, .i32⟩
  | .hbm, ⟨30, _⟩ => ⟨S_, .bf16⟩
  | .hbm, ⟨31, _⟩ => ⟨S512x384, .bf16⟩
  | .hbm, ⟨32, _⟩ => ⟨S251x128, .bf16⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S512x384, .bf16⟩
  | .hbm, ⟨39, _⟩ => ⟨S51x128, .bf16⟩
  | .hbm, ⟨40, _⟩ => ⟨S_, .i32⟩
  | .hbm, ⟨41, _⟩ => ⟨S1, .i32⟩
  | .hbm, ⟨42, _⟩ => ⟨S_, .i32⟩
  | .hbm, ⟨43, _⟩ => ⟨S1, .i32⟩
  | .hbm, ⟨44, _⟩ => ⟨S2, .i32⟩
  | .hbm, ⟨45, _⟩ => ⟨S512x384, .bf16⟩
  | .hbm, ⟨46, _⟩ => ⟨S51x128, .bf16⟩
  | .hbm, ⟨47, _⟩ => ⟨S_, .i32⟩
  | .hbm, ⟨48, _⟩ => ⟨S1, .i32⟩
  | .hbm, ⟨49, _⟩ => ⟨S_, .i32⟩
  | .hbm, ⟨50, _⟩ => ⟨S1, .i32⟩
  | .hbm, ⟨51, _⟩ => ⟨S2, .i32⟩
  | .hbm, ⟨52, _⟩ => ⟨S512x384, .bf16⟩
  | .hbm, ⟨53, _⟩ => ⟨S384x512, .f32⟩
  | .hbm, ⟨54, _⟩ => ⟨S384x512, .bf16⟩
  | .hbm, ⟨55, _⟩ => ⟨S384x512, .f32⟩
  | .hbm, ⟨56, _⟩ => ⟨S384x512, .bf16⟩
  | .hbm, ⟨57, _⟩ => ⟨S512x512, .f32⟩
  | .hbm, ⟨58, _⟩ => ⟨S512x512, .bf16⟩
  | .hbm, ⟨59, _⟩ => ⟨S512x512, .f32⟩
  | .hbm, ⟨60, _⟩ => ⟨S512x512, .bf16⟩
  | .hbm, ⟨61, _⟩ => ⟨S1x512, .f32⟩
  | .hbm, ⟨62, _⟩ => ⟨S1x512, .f32⟩
  | .hbm, ⟨63, _⟩ => ⟨S1x512, .f32⟩
  | .hbm, ⟨64, _⟩ => ⟨S1x512, .f32⟩
  | .hbm, ⟨65, _⟩ => ⟨S2x16x512, .bf16⟩
  | .hbm, ⟨66, _⟩ => ⟨S2048x16x512, .f32⟩
  | .hbm, ⟨67, _⟩ => ⟨S2048x16x512, .f32⟩
  | .hbm, ⟨68, _⟩ => ⟨S1x16x512, .bf16⟩
  | .hbm, ⟨69, _⟩ => ⟨S16x512, .bf16⟩
  | .hbm, ⟨70, _⟩ => ⟨S1x16x512, .bf16⟩
  | .hbm, ⟨71, _⟩ => ⟨S16x512, .bf16⟩
  | .hbm, ⟨72, _⟩ => ⟨S2048x16x512, .bf16⟩
  | .hbm, ⟨73, _⟩ => ⟨S2048x16x512, .bf16⟩
  | .hbm, ⟨74, _⟩ => ⟨S_, .f32⟩
  | .hbm, ⟨75, _⟩ => ⟨S512x256, .f32⟩
  | .hbm, ⟨76, _⟩ => ⟨S251x512, .f32⟩
  | .hbm, ⟨77, _⟩ => ⟨S512x251, .f32⟩
  | .hbm, ⟨78, _⟩ => ⟨S_, .i32⟩
  | .hbm, ⟨79, _⟩ => ⟨S1, .i32⟩
  | .hbm, ⟨80, _⟩ => ⟨S512x256, .f32⟩
  | .hbm, ⟨81, _⟩ => ⟨S_, .f32⟩
  | .hbm, ⟨82, _⟩ => ⟨S512x256, .f32⟩
  | .hbm, ⟨83, _⟩ => ⟨S251x512, .f32⟩
  | .hbm, ⟨84, _⟩ => ⟨S512x251, .f32⟩
  | .hbm, ⟨85, _⟩ => ⟨S_, .i32⟩
  | .hbm, ⟨86, _⟩ => ⟨S1, .i32⟩
  | .hbm, ⟨87, _⟩ => ⟨S512x256, .f32⟩
  | .hbm, ⟨88, _⟩ => ⟨S_, .f32⟩
  | .hbm, ⟨89, _⟩ => ⟨S1x256, .f32⟩
  | .hbm, ⟨90, _⟩ => ⟨S_, .i32⟩
  | .hbm, ⟨91, _⟩ => ⟨S1, .i32⟩
  | .hbm, ⟨92, _⟩ => ⟨S_, .i32⟩
  | .hbm, ⟨93, _⟩ => ⟨S1, .i32⟩
  | .hbm, ⟨94, _⟩ => ⟨S2, .i32⟩
  | .hbm, ⟨95, _⟩ => ⟨S1x256, .f32⟩
  | .hbm, ⟨96, _⟩ => ⟨S2048x16x256, .f32⟩
  | .hbm, ⟨97, _⟩ => ⟨S2048x16x256, .f32⟩
  | .hbm, ⟨98, _⟩ => ⟨S2046x16x251, .f32⟩
  | .hbm, ⟨99, _⟩ => ⟨S16x2046x251, .f32⟩
  | .hbm, ⟨100, _⟩ => ⟨S2046x16x251, .f32⟩
  | .hbm, ⟨101, _⟩ => ⟨S16x2046x251, .f32⟩
  | .local _ .vmem, ⟨0, _⟩ => ⟨S128x16, .i32⟩
  | .local _ .vmem, ⟨1, _⟩ => ⟨S128x16, .i32⟩
  | .local _ .vmem, ⟨2, _⟩ => ⟨S128x16, .i32⟩
  | .local _ .vmem, ⟨3, _⟩ => ⟨S128x16, .i32⟩
  | .local _ .vmem, ⟨4, _⟩ => ⟨S128x16, .i32⟩
  | .local _ .vmem, ⟨5, _⟩ => ⟨S128x16, .i32⟩
  | .local _ .vmem, ⟨6, _⟩ => ⟨S128x16, .i32⟩
  | .local _ .vmem, ⟨7, _⟩ => ⟨S128x16, .i32⟩
  | .local _ .vmem, ⟨8, _⟩ => ⟨S128x16, .i32⟩
  | .local _ .vmem, ⟨9, _⟩ => ⟨S128x16, .i32⟩
  | .local _ .vmem, ⟨10, _⟩ => ⟨S128x16, .i32⟩
  | .local _ .vmem, ⟨11, _⟩ => ⟨S128x16, .i32⟩
  | .local _ .vmem, ⟨12, _⟩ => ⟨S512x384, .bf16⟩
  | .local _ .vmem, ⟨13, _⟩ => ⟨S384x512, .bf16⟩
  | .local _ .vmem, ⟨14, _⟩ => ⟨S384x512, .bf16⟩
  | .local _ .vmem, ⟨15, _⟩ => ⟨S1x512, .f32⟩
  | .local _ .vmem, ⟨16, _⟩ => ⟨S1x512, .f32⟩
  | .local _ .vmem, ⟨17, _⟩ => ⟨S128x16x512, .f32⟩
  | .local _ .vmem, ⟨18, _⟩ => ⟨S128x16x512, .f32⟩
  | .local _ .vmem, ⟨19, _⟩ => ⟨S128x16x512, .f32⟩
  | .local _ .vmem, ⟨20, _⟩ => ⟨S128x16x512, .f32⟩
  | .local _ .vmem, ⟨21, _⟩ => ⟨S128x16x512, .f32⟩
  | .local _ .vmem, ⟨22, _⟩ => ⟨S128x16x512, .f32⟩
  | .local _ .vmem, ⟨23, _⟩ => ⟨S128x16x512, .f32⟩
  | .local _ .vmem, ⟨24, _⟩ => ⟨S128x16x512, .f32⟩
  | .local _ .vmem, ⟨25, _⟩ => ⟨S512x512, .bf16⟩
  | .local _ .vmem, ⟨26, _⟩ => ⟨S512x512, .bf16⟩
  | .local _ .vmem, ⟨27, _⟩ => ⟨S16x512, .bf16⟩
  | .local _ .vmem, ⟨28, _⟩ => ⟨S16x512, .bf16⟩
  | .local _ .vmem, ⟨29, _⟩ => ⟨S1x512, .f32⟩
  | .local _ .vmem, ⟨30, _⟩ => ⟨S1x512, .f32⟩
  | .local _ .vmem, ⟨31, _⟩ => ⟨S128x16x512, .bf16⟩
  | .local _ .vmem, ⟨32, _⟩ => ⟨S128x16x512, .bf16⟩
  | .local _ .vmem, ⟨33, _⟩ => ⟨S128x16x512, .bf16⟩
  | .local _ .vmem, ⟨34, _⟩ => ⟨S128x16x512, .bf16⟩
  | .local _ .vmem, ⟨35, _⟩ => ⟨S16x512, .bf16⟩
  | .local _ .vmem, ⟨36, _⟩ => ⟨S16x512, .bf16⟩
  | .local _ .vmem, ⟨37, _⟩ => ⟨S128x16x512, .bf16⟩
  | .local _ .vmem, ⟨38, _⟩ => ⟨S128x16x512, .bf16⟩
  | .local _ .vmem, ⟨39, _⟩ => ⟨S128x16x512, .bf16⟩
  | .local _ .vmem, ⟨40, _⟩ => ⟨S128x16x512, .bf16⟩
  | .local _ .vmem, ⟨41, _⟩ => ⟨S512x256, .f32⟩
  | .local _ .vmem, ⟨42, _⟩ => ⟨S512x256, .f32⟩
  | .local _ .vmem, ⟨43, _⟩ => ⟨S1x256, .f32⟩
  | .local _ .vmem, ⟨44, _⟩ => ⟨S128x16x256, .f32⟩
  | .local _ .vmem, ⟨45, _⟩ => ⟨S128x16x256, .f32⟩
  | .local _ .vmem, ⟨46, _⟩ => ⟨S128x16x256, .f32⟩
  | .local _ .vmem, ⟨47, _⟩ => ⟨S128x16x256, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_c_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_1 : Ref sig .tc := ⟨.hbm, 40, rfl⟩
abbrev main_v19 : Ref sig .tc := ⟨.hbm, 41, rfl⟩
abbrev main_c_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_3 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41_0 : Ref sig .tc := ⟨.hbm, 66, rfl⟩
abbrev main_v41_1 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46_0 : Ref sig .tc := ⟨.hbm, 72, rfl⟩
abbrev main_v46_1 : Ref sig .tc := ⟨.hbm, 73, rfl⟩
abbrev main_cst_5 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_6 : Ref sig .tc := ⟨.hbm, 78, rfl⟩
abbrev main_v50 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_8 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_c_10 : Ref sig .tc := ⟨.hbm, 90, rfl⟩
abbrev main_v58 : Ref sig .tc := ⟨.hbm, 91, rfl⟩
abbrev main_c_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62_0 : Ref sig .tc := ⟨.hbm, 96, rfl⟩
abbrev main_v62_1 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc1_scratch0 : Ref sig .tc := ⟨.vmem, 35, rfl⟩
abbrev cc1_scratch1 : Ref sig .tc := ⟨.vmem, 36, rfl⟩
abbrev cc2_stg0_0 : Ref sig .tc := ⟨.vmem, 37, rfl⟩
abbrev cc2_stg0_1 : Ref sig .tc := ⟨.vmem, 38, rfl⟩
abbrev cc2_stg1_0 : Ref sig .tc := ⟨.vmem, 39, rfl⟩
abbrev cc2_stg1_1 : Ref sig .tc := ⟨.vmem, 40, rfl⟩
abbrev cc2_stg2_0 : Ref sig .tc := ⟨.vmem, 41, rfl⟩
abbrev cc2_stg3_0 : Ref sig .tc := ⟨.vmem, 42, rfl⟩
abbrev cc2_stg4_0 : Ref sig .tc := ⟨.vmem, 43, rfl⟩
abbrev cc2_stg5_0 : Ref sig .tc := ⟨.vmem, 44, rfl⟩
abbrev cc2_stg5_1 : Ref sig .tc := ⟨.vmem, 45, rfl⟩
abbrev cc2_stg6_0 : Ref sig .tc := ⟨.vmem, 46, rfl⟩
abbrev cc2_stg6_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem8_1 : DmaSem sig := 32
abbrev cc1_sem9_0 : DmaSem sig := 33
abbrev cc1_sem9_1 : DmaSem sig := 34
abbrev cc2_sem0_0 : DmaSem sig := 35
abbrev cc2_sem0_1 : DmaSem sig := 36
abbrev cc2_sem1_0 : DmaSem sig := 37
abbrev cc2_sem1_1 : DmaSem sig := 38
abbrev cc2_sem2_0 : DmaSem sig := 39
abbrev cc2_sem3_0 : DmaSem sig := 40
abbrev cc2_sem4_0 : DmaSem sig := 41
abbrev cc2_sem5_0 : DmaSem sig := 42
abbrev cc2_sem5_1 : DmaSem sig := 43
abbrev cc2_sem6_0 : DmaSem sig := 44
abbrev cc2_sem6_1 : DmaSem sig := 45

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x16 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x16 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![16], ![false]⟩

@[reducible] def k1_t1_loop : Scf.Loop 32 :=
  let c0_i32_14 : BitVec 32 := 0#32
  let c128_i32_15 : BitVec 32 := 128#32
  let v17 : BitVec 32 := Scalar.addi c0_i32_14 c128_i32_15
  let c1_i32 : BitVec 32 := 1#32
  ⟨c0_i32_14, v17, c1_i32⟩
def k1_off1 (k1_t1 : Fin k1_t1_loop.trips) : Fin 3 → Nat :=
  let c0_i32_14 : BitVec 32 := 0#32
  let c1_i32 : BitVec 32 := 1#32
  let arg13 : BitVec 32 := Scf.iv c0_i32_14 c1_i32 k1_t1
  let v26 : Index := Scalar.indexCast arg13
  let c0_21 : Index := 0#32
  let c0_22 : Index := 0#32
  ![v26.toNat, 0, 0]
def k1_off2 (k1_t1 : Fin k1_t1_loop.trips) : Fin 3 → Nat :=
  let c127_i32 : BitVec 32 := 127#32
  let c0_i32_14 : BitVec 32 := 0#32
  let c1_i32 : BitVec 32 := 1#32
  let arg13 : BitVec 32 := Scf.iv c0_i32_14 c1_i32 k1_t1
  let v38 : BitVec 32 := Scalar.subi c127_i32 arg13
  let v43 : Index := Scalar.indexCast v38
  let c0_26 : Index := 0#32
  let c0_27 : Index := 0#32
  ![v43.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

abbrev stage1_0 : Fin 2 → Memref sig .tc .vmem S128x16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x16x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S128x16x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S128x16x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S128x16x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x16x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S128x16x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S128x16x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== KernelIdeal.lean ====
variable {F : FTy → Type} [FloatOps F] [Named F]
def κ : String → Option EReal := fun
  | "mask" => some ⊥
  | _ => none
-- ==== ReferenceIdeal.lean ====
abbrev S16x2048 : Shape := ⟨2, ![16, 2048]⟩
abbrev S2x16x512 : Shape := ⟨3, ![2, 16, 512]⟩
abbrev S251x128 : Shape := ⟨2, ![251, 128]⟩
abbrev S51x128 : Shape := ⟨2, ![51, 128]⟩
abbrev S512x384 : Shape := ⟨2, ![512, 384]⟩
abbrev S512x512 : Shape := ⟨2, ![512, 512]⟩
abbrev S512 : Shape := ⟨1, ![512]⟩
abbrev S251x1024 : Shape := ⟨2, ![251, 1024]⟩
abbrev S251 : Shape := ⟨1, ![251]⟩
abbrev S_ : Shape := ⟨0, ![]⟩
abbrev S16x2048x1 : Shape := ⟨3, ![16, 2048, 1]⟩
abbrev S1 : Shape := ⟨1, ![1]⟩
abbrev S1x1x1 : Shape := ⟨3, ![1, 1, 1]⟩
abbrev S16x2048x128 : Shape := ⟨3, ![16, 2048, 128]⟩
abbrev S16x2048x384 : Shape := ⟨3, ![16, 2048, 384]⟩
abbrev S2048x16x384 : Shape := ⟨3, ![2048, 16, 384]⟩
abbrev S1x16x512 : Shape := ⟨3, ![1, 16, 512]⟩
abbrev S16x512 : Shape := ⟨2, ![16, 512]⟩
abbrev S2048x16x512 : Shape := ⟨3, ![2048, 16, 512]⟩
abbrev S1x16x384 : Shape := ⟨3, ![1, 16, 384]⟩
abbrev S16x384 : Shape := ⟨2, ![16, 384]⟩
abbrev S384x512 : Shape := ⟨2, ![384, 512]⟩
abbrev S1x512 : Shape := ⟨2, ![1, 512]⟩
abbrev S16x2048x512 : Shape := ⟨3, ![16, 2048, 512]⟩
abbrev S16x2048x1024 : Shape := ⟨3, ![16, 2048, 1024]⟩
abbrev S16x2046x512 : Shape := ⟨3, ![16, 2046, 512]⟩
abbrev S16x2046x1024 : Shape := ⟨3, ![16, 2046, 1024]⟩
abbrev S1024x251 : Shape := ⟨2, ![1024, 251]⟩
abbrev S16x2046x251 : Shape := ⟨3, ![16, 2046, 251]⟩
abbrev S1x1x251 : Shape := ⟨3, ![1, 1, 251]⟩
abbrev S16x2046 : Shape := ⟨2, ![16, 2046]⟩
abbrev S16x2046x1 : Shape := ⟨3, ![16, 2046, 1]⟩

abbrev nBuf : Space → Nat
  | .hbm => 185
  | .vmem => 0
  | .smem => 0
  | _ => 0

abbrev hbmTy0_0 (i : Nat) : BufTy := match i % 128 with
  | 0 => ⟨S16x2048, .i32⟩
  | 1 => ⟨S16x2048, .i32⟩
  | 2 => ⟨S16x2048, .i32⟩
  | 3 => ⟨S16x2048, .i32⟩
  | 4 => ⟨S2x16x512, .f32⟩
  | 5 => ⟨S251x128, .f32⟩
  | 6 => ⟨S51x128, .f32⟩
  | 7 => ⟨S51x128, .f32⟩
  | 8 => ⟨S512x384, .f32⟩
  | 9 => ⟨S512x512, .f32⟩
  | 10 => ⟨S512, .f32⟩
  | 11 => ⟨S512, .f32⟩
  | 12 => ⟨S512x384, .f32⟩
  | 13 => ⟨S512x512, .f32⟩
  | 14 => ⟨S512, .f32⟩
  | 15 => ⟨S512, .f32⟩
  | 16 => ⟨S251x1024, .f32⟩
  | 17 => ⟨S251, .f32⟩
  | 18 => ⟨S_, .i32⟩
  | 19 => ⟨S16x2048, .i32⟩
  | 20 => ⟨S16x2048, .i1⟩
  | 21 => ⟨S_, .i32⟩
  | 22 => ⟨S16x2048, .i32⟩
  | 23 => ⟨S16x2048, .i32⟩
  | 24 => ⟨S16x2048, .i32⟩
  | 25 => ⟨S16x2048x1, .i32⟩
  | 26 => ⟨S1, .i32⟩
  | 27 => ⟨S_, .i32⟩
  | 28 => ⟨S16x2048x1, .i32⟩
  | 29 => ⟨S16x2048x1, .i1⟩
  | 30 => ⟨S1x1x1, .i32⟩
  | 31 => ⟨S16x2048x1, .i32⟩
  | 32 => ⟨S16x2048x1, .i1⟩
  | 33 => ⟨S16x2048x1, .i1⟩
  | 34 => ⟨S_, .i1⟩
  | 35 => ⟨S16x2048, .i1⟩
  | 36 => ⟨S16x2048x128, .f32⟩
  | 37 => ⟨S16x2048x128, .i1⟩
  | 38 => ⟨S_, .f32⟩
  | 39 => ⟨S16x2048x128, .f32⟩
  | 40 => ⟨S16x2048x128, .f32⟩
  | 41 => ⟨S_, .i32⟩
  | 42 => ⟨S16x2048, .i32⟩
  | 43 => ⟨S16x2048, .i1⟩
  | 44 => ⟨S_, .i32⟩
  | 45 => ⟨S16x2048, .i32⟩
  | 46 => ⟨S16x2048, .i32⟩
  | 47 => ⟨S16x2048, .i32⟩
  | 48 => ⟨S16x2048x1, .i32⟩
  | 49 => ⟨S1, .i32⟩
  | 50 => ⟨S_, .i32⟩
  | 51 => ⟨S16x2048x1, .i32⟩
  | 52 => ⟨S16x2048x1, .i1⟩
  | 53 => ⟨S1x1x1, .i32⟩
  | 54 => ⟨S16x2048x1, .i32⟩
  | 55 => ⟨S16x2048x1, .i1⟩
  | 56 => ⟨S16x2048x1, .i1⟩
  | 57 => ⟨S_, .i1⟩
  | 58 => ⟨S16x2048, .i1⟩
  | 59 => ⟨S16x2048x128, .f32⟩
  | 60 => ⟨S16x2048x128, .i1⟩
  | 61 => ⟨S_, .f32⟩
  | 62 => ⟨S16x2048x128, .f32⟩
  | 63 => ⟨S16x2048x128, .f32⟩
  | 64 => ⟨S_, .i32⟩
  | 65 => ⟨S16x2048, .i32⟩
  | 66 => ⟨S16x2048, .i1⟩
  | 67 => ⟨S_, .i32⟩
  | 68 => ⟨S16x2048, .i32⟩
  | 69 => ⟨S16x2048, .i32⟩
  | 70 => ⟨S16x2048, .i32⟩
  | 71 => ⟨S16x2048x1, .i32⟩
  | 72 => ⟨S1, .i32⟩
  | 73 => ⟨S_, .i32⟩
  | 74 => ⟨S16x2048x1, .i32⟩
  | 75 => ⟨S16x2048x1, .i1⟩
  | 76 => ⟨S1x1x1, .i32⟩
  | 77 => ⟨S16x2048x1, .i32⟩
  | 78 => ⟨S16x2048x1, .i1⟩
  | 79 => ⟨S16x2048x1, .i1⟩
  | 80 => ⟨S_, .i1⟩
  | 81 => ⟨S16x2048, .i1⟩
  | 82 => ⟨S16x2048x128, .f32⟩
  | 83 => ⟨S16x2048x128, .i1⟩
  | 84 => ⟨S_, .f32⟩
  | 85 => ⟨S16x2048x128, .f32⟩
  | 86 => ⟨S16x2048x128, .f32⟩
  | 87 => ⟨S16x2048x384, .f32⟩
  | 88 => ⟨S2048x16x384, .f32⟩
  | 89 => ⟨S16x2048x384, .f32⟩
  | 90 => ⟨S2048x16x384, .f32⟩
  | 91 => ⟨S1x16x512, .f32⟩
  | 92 => ⟨S16x512, .f32⟩
  | 93 => ⟨S1x16x512, .f32⟩
  | 94 => ⟨S16x512, .f32⟩
  | 95 => ⟨S_, .f32⟩
  | 96 => ⟨S2048x16x512, .f32⟩
  | 97 => ⟨S_, .f32⟩
  | 98 => ⟨S2048x16x512, .f32⟩
  | 99 => ⟨S_, .i32⟩
  | 100 => ⟨S2048x16x384, .f32⟩
  | 101 => ⟨S2048x16x384, .f32⟩
  | 102 => ⟨S512x384, .f32⟩
  | 103 => ⟨S512, .f32⟩
  | 104 => ⟨S512x512, .f32⟩
  | 105 => ⟨S512, .f32⟩
  | 106 => ⟨S512x384, .f32⟩
  | 107 => ⟨S512, .f32⟩
  | 108 => ⟨S512x512, .f32⟩
  | 109 => ⟨S512, .f32⟩
  | 110 => ⟨S_, .i32⟩
  | 111 => ⟨S16x512, .f32⟩
  | 112 => ⟨S16x512, .f32⟩
  | 113 => ⟨S2048x16x512, .f32⟩
  | 114 => ⟨S2048x16x512, .f32⟩
  | 115 => ⟨S_, .i32⟩
  | 116 => ⟨S_, .i1⟩
  | 117 => ⟨S_, .i32⟩
  | 118 => ⟨S_, .i32⟩
  | 119 => ⟨S1x16x384, .f32⟩
  | 120 => ⟨S16x384, .f32⟩
  | 121 => ⟨S_, .i32⟩
  | 122 => ⟨S_, .i32⟩
  | 123 => ⟨S1x16x384, .f32⟩
  | 124 => ⟨S16x384, .f32⟩
  | 125 => ⟨S384x512, .f32⟩
  | 126 => ⟨S16x512, .f32⟩
  | 127 => ⟨S1x512, .f32⟩
  | _ => ⟨S16x2048, .i32⟩

abbrev hbmTy0_1 (i : Nat) : BufTy := match i % 128 with
  | 0 => ⟨S16x512, .f32⟩
  | 1 => ⟨S16x512, .f32⟩
  | 2 => ⟨S512x512, .f32⟩
  | 3 => ⟨S16x512, .f32⟩
  | 4 => ⟨S16x512, .f32⟩
  | 5 => ⟨S1x512, .f32⟩
  | 6 => ⟨S16x512, .f32⟩
  | 7 => ⟨S16x512, .f32⟩
  | 8 => ⟨S16x512, .f32⟩
  | 9 => ⟨S384x512, .f32⟩
  | 10 => ⟨S16x512, .f32⟩
  | 11 => ⟨S1x512, .f32⟩
  | 12 => ⟨S16x512, .f32⟩
  | 13 => ⟨S16x512, .f32⟩
  | 14 => ⟨S512x512, .f32⟩
  | 15 => ⟨S16x512, .f32⟩
  | 16 => ⟨S16x512, .f32⟩
  | 17 => ⟨S1x512, .f32⟩
  | 18 => ⟨S16x512, .f32⟩
  | 19 => ⟨S16x512, .f32⟩
  | 20 => ⟨S16x512, .f32⟩
  | 21 => ⟨S1x16x512, .f32⟩
  | 22 => ⟨S_, .i32⟩
  | 23 => ⟨S_, .i32⟩
  | 24 => ⟨S2048x16x512, .f32⟩
  | 25 => ⟨S1x16x512, .f32⟩
  | 26 => ⟨S_, .i32⟩
  | 27 => ⟨S_, .i32⟩
  | 28 => ⟨S2048x16x512, .f32⟩
  | 29 => ⟨S_, .i32⟩
  | 30 => ⟨S_, .i32⟩
  | 31 => ⟨S16x2048x512, .f32⟩
  | 32 => ⟨S16x2048x512, .f32⟩
  | 33 => ⟨S16x2048x512, .f32⟩
  | 34 => ⟨S16x2048x1024, .f32⟩
  | 35 => ⟨S16x2046x512, .f32⟩
  | 36 => ⟨S16x2046x512, .f32⟩
  | 37 => ⟨S16x2046x1024, .f32⟩
  | 38 => ⟨S1024x251, .f32⟩
  | 39 => ⟨S16x2046x251, .f32⟩
  | 40 => ⟨S1x1x251, .f32⟩
  | 41 => ⟨S16x2046x251, .f32⟩
  | 42 => ⟨S16x2046x251, .f32⟩
  | 43 => ⟨S_, .f32⟩
  | 44 => ⟨S16x2046, .f32⟩
  | 45 => ⟨S_, .f32⟩
  | 46 => ⟨S16x2046, .f32⟩
  | 47 => ⟨S16x2046, .f32⟩
  | 48 => ⟨S16x2046x1, .f32⟩
  | 49 => ⟨S16x2046x251, .f32⟩
  | 50 => ⟨S16x2046x251, .f32⟩
  | 51 => ⟨S16x2046x251, .f32⟩
  | 52 => ⟨S_, .f32⟩
  | 53 => ⟨S16x2046, .f32⟩
  | 54 => ⟨S16x2046x1, .f32⟩
  | 55 => ⟨S16x2046x251, .f32⟩
  | 56 => ⟨S16x2046x251, .f32⟩
  | _ => ⟨S16x2048, .i32⟩

abbrev hbmTy (i : Nat) : BufTy := match i / 128 with
  | 0 => hbmTy0_0 i
  | 1 => hbmTy0_1 i
  | _ => ⟨S16x2048, .i32⟩

abbrev bufTy : (tb : Table) → Fin (tcTables nBuf tb) → BufTy
  | .hbm, ⟨i, _⟩ => hbmTy i
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v0 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v1 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v2 : Ref sig .tc := ⟨.hbm, 86, rfl⟩
abbrev main_v3 : Ref sig .tc := ⟨.hbm, 87, rfl⟩
abbrev main_v4 : Ref sig .tc := ⟨.hbm, 88, rfl⟩
abbrev main_v5 : Ref sig .tc := ⟨.hbm, 89, rfl⟩
abbrev main_v6 : Ref sig .tc := ⟨.hbm, 90, rfl⟩
abbrev main_v7 : Ref sig .tc := ⟨.hbm, 91, rfl⟩
abbrev main_v8 : Ref sig .tc := ⟨.hbm, 92, rfl⟩
abbrev main_v9 : Ref sig .tc := ⟨.hbm, 93, rfl⟩
abbrev main_v10 : Ref sig .tc := ⟨.hbm, 94, rfl⟩
abbrev main_cst : Ref sig .tc := ⟨.hbm, 95, rfl⟩
abbrev main_v11 : Ref sig .tc := ⟨.hbm, 96, rfl⟩
abbrev main_cst_0 : Ref sig .tc := ⟨.hbm, 97, rfl⟩
abbrev main_v12 : Ref sig .tc := ⟨.hbm, 98, rfl⟩
abbrev main_c : Ref sig .tc := ⟨.hbm, 99, rfl⟩
abbrev main_v13_0 : Ref sig .tc := ⟨.hbm, 100, rfl⟩
abbrev main_v13_1 : Ref sig .tc := ⟨.hbm, 101, rfl⟩
abbrev main_v13_2 : Ref sig .tc := ⟨.hbm, 102, rfl⟩
abbrev main_v13_3 : Ref sig .tc := ⟨.hbm, 103, rfl⟩
abbrev main_v13_4 : Ref sig .tc := ⟨.hbm, 104, rfl⟩
abbrev main_v13_5 : Ref sig .tc := ⟨.hbm, 105, rfl⟩
abbrev main_v13_6 : Ref sig .tc := ⟨.hbm, 106, rfl⟩
abbrev main_v13_7 : Ref sig .tc := ⟨.hbm, 107, rfl⟩
abbrev main_v13_8 : Ref sig .tc := ⟨.hbm, 108, rfl⟩
abbrev main_v13_9 : Ref sig .tc := ⟨.hbm, 109, rfl⟩
abbrev main_v13_10 : Ref sig .tc := ⟨.hbm, 110, rfl⟩
abbrev main_v13_11 : Ref sig .tc := ⟨.hbm, 111, rfl⟩
abbrev main_v13_12 : Ref sig .tc := ⟨.hbm, 112, rfl⟩
abbrev main_v13_13 : Ref sig .tc := ⟨.hbm, 113, rfl⟩
abbrev main_v13_14 : Ref sig .tc := ⟨.hbm, 114, rfl⟩
abbrev main_while0c_c_18 : Ref sig .tc := ⟨.hbm, 115, rfl⟩
abbrev main_while0c_v37 : Ref sig .tc := ⟨.hbm, 116, rfl⟩
abbrev main_while0b_call3_c : Ref sig .tc := ⟨.hbm, 117, rfl⟩
abbrev main_while0b_call3_c_0 : Ref sig .tc := ⟨.hbm, 118, rfl⟩
abbrev main_while0b_call3_v0 : Ref sig .tc := ⟨.hbm, 119, rfl⟩
abbrev main_while0b_v37 : Ref sig .tc := ⟨.hbm, 120, rfl⟩
abbrev main_while0b_call4_c : Ref sig .tc := ⟨.hbm, 121, rfl⟩
abbrev main_while0b_call4_c_0 : Ref sig .tc := ⟨.hbm, 122, rfl⟩
abbrev main_while0b_call4_v0 : Ref sig .tc := ⟨.hbm, 123, rfl⟩
abbrev main_while0b_v38 : Ref sig .tc := ⟨.hbm, 124, rfl⟩
abbrev main_while0b_v39 : Ref sig .tc := ⟨.hbm, 125, rfl⟩
abbrev main_while0b_v40 : Ref sig .tc := ⟨.hbm, 126, rfl⟩
abbrev main_while0b_v41 : Ref sig .tc := ⟨.hbm, 127, rfl⟩
abbrev main_while0b_v42 : Ref sig .tc := ⟨.hbm, 128, rfl⟩
abbrev main_while0b_v43 : Ref sig .tc := ⟨.hbm, 129, rfl⟩
abbrev main_while0b_v44 : Ref sig .tc := ⟨.hbm, 130, rfl⟩
abbrev main_while0b_v45 : Ref sig .tc := ⟨.hbm, 131, rfl⟩
abbrev main_while0b_v46 : Ref sig .tc := ⟨.hbm, 132, rfl⟩
abbrev main_while0b_v47 : Ref sig .tc := ⟨.hbm, 133, rfl⟩
abbrev main_while0b_v48 : Ref sig .tc := ⟨.hbm, 134, rfl⟩
abbrev main_while0b_v49 : Ref sig .tc := ⟨.hbm, 135, rfl⟩
abbrev main_while0b_v50 : Ref sig .tc := ⟨.hbm, 136, rfl⟩
abbrev main_while0b_v51 : Ref sig .tc := ⟨.hbm, 137, rfl⟩
abbrev main_while0b_v52 : Ref sig .tc := ⟨.hbm, 138, rfl⟩
abbrev main_while0b_v53 : Ref sig .tc := ⟨.hbm, 139, rfl⟩
abbrev main_while0b_v54 : Ref sig .tc := ⟨.hbm, 140, rfl⟩
abbrev main_while0b_v55 : Ref sig .tc := ⟨.hbm, 141, rfl⟩
abbrev main_while0b_v56 : Ref sig .tc := ⟨.hbm, 142, rfl⟩
abbrev main_while0b_v57 : Ref sig .tc := ⟨.hbm, 143, rfl⟩
abbrev main_while0b_v58 : Ref sig .tc := ⟨.hbm, 144, rfl⟩
abbrev main_while0b_v59 : Ref sig .tc := ⟨.hbm, 145, rfl⟩
abbrev main_while0b_v60 : Ref sig .tc := ⟨.hbm, 146, rfl⟩
abbrev main_while0b_v61 : Ref sig .tc := ⟨.hbm, 147, rfl⟩
abbrev main_while0b_v62 : Ref sig .tc := ⟨.hbm, 148, rfl⟩
abbrev main_while0b_call5_v0 : Ref sig .tc := ⟨.hbm, 149, rfl⟩
abbrev main_while0b_call5_c : Ref sig .tc := ⟨.hbm, 150, rfl⟩
abbrev main_while0b_call5_c_0 : Ref sig .tc := ⟨.hbm, 151, rfl⟩
abbrev main_while0b_v63 : Ref sig .tc := ⟨.hbm, 152, rfl⟩
abbrev main_while0b_call6_v0 : Ref sig .tc := ⟨.hbm, 153, rfl⟩
abbrev main_while0b_call6_c : Ref sig .tc := ⟨.hbm, 154, rfl⟩
abbrev main_while0b_call6_c_0 : Ref sig .tc := ⟨.hbm, 155, rfl⟩
abbrev main_while0b_v64 : Ref sig .tc := ⟨.hbm, 156, rfl⟩
abbrev main_while0b_c_18 : Ref sig .tc := ⟨.hbm, 157, rfl⟩
abbrev main_while0b_v65 : Ref sig .tc := ⟨.hbm, 158, rfl⟩
abbrev main_v14 : Ref sig .tc := ⟨.hbm, 159, rfl⟩
abbrev main_v15 : Ref sig .tc := ⟨.hbm, 160, rfl⟩
abbrev main_v16 : Ref sig .tc := ⟨.hbm, 161, rfl⟩
abbrev main_v17 : Ref sig .tc := ⟨.hbm, 162, rfl⟩
abbrev main_v18 : Ref sig .tc := ⟨.hbm, 163, rfl⟩
abbrev main_v19 : Ref sig .tc := ⟨.hbm, 164, rfl⟩
abbrev main_v20 : Ref sig .tc := ⟨.hbm, 165, rfl⟩
abbrev main_v21 : Ref sig .tc := ⟨.hbm, 166, rfl⟩
abbrev main_v22 : Ref sig .tc := ⟨.hbm, 167, rfl⟩
abbrev main_v23 : Ref sig .tc := ⟨.hbm, 168, rfl⟩
abbrev main_v24 : Ref sig .tc := ⟨.hbm, 169, rfl⟩
abbrev main_v25 : Ref sig .tc := ⟨.hbm, 170, rfl⟩
abbrev main_cst_1 : Ref sig .tc := ⟨.hbm, 171, rfl⟩
abbrev main_v26 : Ref sig .tc := ⟨.hbm, 172, rfl⟩
abbrev main_cst_2 : Ref sig .tc := ⟨.hbm, 173, rfl⟩
abbrev main_v27 : Ref sig .tc := ⟨.hbm, 174, rfl⟩
abbrev main_v28 : Ref sig .tc := ⟨.hbm, 175, rfl⟩
abbrev main_v29 : Ref sig .tc := ⟨.hbm, 176, rfl⟩
abbrev main_v30 : Ref sig .tc := ⟨.hbm, 177, rfl⟩
abbrev main_v31 : Ref sig .tc := ⟨.hbm, 178, rfl⟩
abbrev main_v32 : Ref sig .tc := ⟨.hbm, 179, rfl⟩
abbrev main_cst_3 : Ref sig .tc := ⟨.hbm, 180, rfl⟩
abbrev main_v33 : Ref sig .tc := ⟨.hbm, 181, rfl⟩
abbrev main_v34 : Ref sig .tc := ⟨.hbm, 182, rfl⟩
abbrev main_v35 : Ref sig .tc := ⟨.hbm, 183, rfl⟩
abbrev main_v36 : Ref sig .tc := ⟨.hbm, 184, rfl⟩

abbrev nD : Nat := 1
abbrev τ : Topo := Topo.v7x

variable {F : FTy → Type} [FloatOps F]

abbrev main_while0_count : Scf.Loop 32 := ⟨0#32, 2048#32, 1#32⟩
-- ==== Proof.Region0I.lean ====
/- Region 0 of the program (the input products): what its body leaves in each output window's buffer, as a function of the
   input windows' blocks, the proof data from any entry contents, and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameTail
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what each core's buffers hold when the region is entered
variable (W : Dev nD → Valuation τ sig (Elt F))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

theorem before0_0_of {c : Dev nD} (dat : Dat τ (Elt F) Unit ℕ (UR sig nD τ) ℕ cfg0 c) (hA : dat.A 0 = W c (Pipeline.arrRef spec0 0))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = W c (Pipeline.arrRef spec0 1))
    (hafter : ∀ t, dat.after 1 t = iblk W c 1 t) (t : Fin cfg0.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = W c (Pipeline.arrRef spec0 2))
    (hafter : ∀ t, dat.after 2 t = iblk W c 2 t) (t : Fin cfg0.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = W c (Pipeline.arrRef spec0 3))
    (hafter : ∀ t, dat.after 3 t = iblk W c 3 t) (t : Fin cfg0.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = W c (Pipeline.arrRef spec0 4))
    (hafter : ∀ t, dat.after 4 t = iblk W c 4 t) (t : Fin cfg0.N) (d) : dat.before 4 t d = iblk W c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = W c (Pipeline.arrRef spec0 5))
    (hafter : ∀ t, dat.after 5 t = iblk W c 5 t) (t : Fin cfg0.N) (d) : dat.before 5 t d = iblk W c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = W c (Pipeline.arrRef spec0 6))
    (hafter : ∀ t, dat.after 6 t = iblk W c 6 t) (t : Fin cfg0.N) (d) : dat.before 6 t d = iblk W c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = W c (Pipeline.arrRef spec0 7))
    (hafter : ∀ t, dat.after 7 t = iblk W c 7 t) (t : Fin cfg0.N) (d) : dat.before 7 t d = iblk W c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = W c (Pipeline.arrRef spec0 8))
    (hafter : ∀ t, dat.after 8 t = iblk W c 8 t) (t : Fin cfg0.N) (d) : dat.before 8 t d = iblk W c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = W c (Pipeline.arrRef spec0 9))
    (hafter : ∀ t, dat.after 9 t = iblk W c 9 t) (t : Fin cfg0.N) (d) : dat.before 9 t d = iblk W c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = W c (Pipeline.arrRef spec0 10))
    (hafter : ∀ t, dat.after 10 t = iblk W c 10 t) (t : Fin cfg0.N) (d) : dat.before 10 t d = iblk W c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-! ## The body's accesses -/

abbrev r0_0 : Rect S512x384 := Rect.unit (s := S512x384) ![0, 0] S512x384.size inb_S512x384_S512x384_0_0
abbrev r0_1 : Rect S128x16 := Rect.unit (s := S128x16) ![0, 0] S128x16.size inb_S128x16_S128x16_0_0
abbrev r0_2 : Rect S384x512 := Rect.unit (s := S384x512) ![0, 0] S384x512.size inb_S384x512_S384x512_0_0
abbrev r0_3 : Rect S1x512 := Rect.unit (s := S1x512) ![0, 0] S1x512.size inb_S1x512_S1x512_0_0
abbrev r0_4 : Rect S128x16x512 := Rect.unit (s := S128x16x512) ![0, 0, 0] S128x16x512.size inb_S128x16x512_S128x16x512_0_0_0

/-! ## What the body leaves in each output window's buffer -/

def out0_11 (x0 : Vec F S128x16 .i32) (x1 : Vec F S128x16 .i32) (x2 : Vec F S128x16 .i32) (x3 : Vec F S128x16 .i32) (x4 : Vec F S128x16 .i32) (x5 : Vec F S128x16 .i32) (x6 : Vec F S512x384 .bf16) (x7 : Vec F S384x512 .bf16) (x8 : Vec F S384x512 .bf16) (x9 : Vec F S1x512 .f32) (x10 : Vec F S1x512 .f32) : Vec F S128x16x512 .f32 :=
  View.canon [⟨r0_4, k0_pay10 (k0_pay5 (View.ld x9 r0_3)) (k0_pay6 (View.ld x6 r0_0) (View.ld x0 r0_1) (View.ld x1 r0_1) (View.ld x2 r0_1) (View.ld x7 r0_2)) (k0_pay7 (View.ld x6 r0_0) (View.ld x0 r0_1) (View.ld x1 r0_1) (View.ld x2 r0_1) (View.ld x7 r0_2)) (k0_pay8 (View.ld x6 r0_0) (View.ld x0 r0_1) (View.ld x1 r0_1) (View.ld x2 r0_1)) (k0_pay9 (View.ld x7 r0_2))⟩]

theorem cover0_11 (p0 : Vec F S128x16x512 .f32) (y : S128x16x512.Idx) :
    ∃ pc ∈ ([⟨r0_4, p0⟩] : List (View.Piece (Elt F) S128x16x512 .f32)), y ∈ pc.1.set :=
  View.cover_of_tiled [⟨r0_4, p0⟩] S128x16x512.size (by rfl) y

def out0_12 (x0 : Vec F S128x16 .i32) (x1 : Vec F S128x16 .i32) (x2 : Vec F S128x16 .i32) (x3 : Vec F S128x16 .i32) (x4 : Vec F S128x16 .i32) (x5 : Vec F S128x16 .i32) (x6 : Vec F S512x384 .bf16) (x7 : Vec F S384x512 .bf16) (x8 : Vec F S384x512 .bf16) (x9 : Vec F S1x512 .f32) (x10 : Vec F S1x512 .f32) : Vec F S128x16x512 .f32 :=
  View.canon [⟨r0_4, k0_pay1 (k0_pay11 (k0_pay2 (View.ld x6 r0_0)) (View.ld x3 r0_1) (View.ld x4 r0_1) (View.ld x5 r0_1)) (k0_pay12 (View.ld x8 r0_2)) (k0_pay13 (View.ld x10 r0_3)) (k0_pay14 (k0_pay2 (View.ld x6 r0_0)) (View.ld x3 r0_1) (View.ld x4 r0_1) (View.ld x5 r0_1)) (k0_pay15 (View.ld x8 r0_2)) (constant S2048x512 .f32 0x00000000#32)⟩]

theorem cover0_12 (p0 : Vec F S128x16x512 .f32) (y : S128x16x512.Idx) :
    ∃ pc ∈ ([⟨r0_4, p0⟩] : List (View.Piece (Elt F) S128x16x512 .f32)), y ∈ pc.1.set :=
  View.cover_of_tiled [⟨r0_4, p0⟩] S128x16x512.size (by rfl) y

/-! ## The body's triple -/

set_option maxHeartbeats 1000000 in
/-- The body on whole staging memrefs, from the inputs' contents to what it leaves. -/
theorem sound_kernel (c : Dev nD) (E : Set ℕ) (i : grid0.Coords) (arg1 : Memref sig .tc .vmem S128x16 .i32) (harg1 : arg1.IsWhole) (arg2 : Memref sig .tc .vmem S128x16 .i32) (harg2 : arg2.IsWhole) (arg3 : Memref sig .tc .vmem S128x16 .i32) (harg3 : arg3.IsWhole) (arg4 : Memref sig .tc .vmem S128x16 .i32) (harg4 : arg4.IsWhole) (arg5 : Memref sig .tc .vmem S128x16 .i32) (harg5 : arg5.IsWhole) (arg6 : Memref sig .tc .vmem S128x16 .i32) (harg6 : arg6.IsWhole) (arg7 : Memref sig .tc .vmem S512x384 .bf16) (harg7 : arg7.IsWhole) (arg8 : Memref sig .tc .vmem S384x512 .bf16) (harg8 : arg8.IsWhole) (arg9 : Memref sig .tc .vmem S384x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S128x16x512 .f32) (harg12 : arg12.IsWhole) (arg13 : Memref sig .tc .vmem S128x16x512 .f32) (harg13 : arg13.IsWhole)
    (x0 : Vec F S128x16 .i32) (x1 : Vec F S128x16 .i32) (x2 : Vec F S128x16 .i32) (x3 : Vec F S128x16 .i32) (x4 : Vec F S128x16 .i32) (x5 : Vec F S128x16 .i32) (x6 : Vec F S512x384 .bf16) (x7 : Vec F S384x512 .bf16) (x8 : Vec F S384x512 .bf16) (x9 : Vec F S1x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10)) -∗ K ⟨⟩))
      ⊢ wp frame (wpE (defs₀ (F := F)) Variants.none c none) E (cc0__gproj_kernel i arg1 harg1 arg2 harg2 arg3 harg3 arg4 harg4 arg5 harg5 arg6 harg6 arg7 harg7 arg8 harg8 arg9 harg9 arg10 harg10 arg11 harg11 arg12 harg12 arg13 harg13) K := by
  simp only [cc0__gproj_kernel_eq_skeleton]; unfold cc0__gproj_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover0_11 _)
  iexists _; isplitr
  swap; · iexact H12
  ipureintro
  exact View.read_writes_eq_canon _ _ _ (cover0_12 _)

/-! ## The pipeline's proof data -/

/-- The proof data: each input's buffer keeps its block, each output's holds what the body stored; the rest is untouched. -/
def dat (c : Dev nD) : Dat τ (Elt F) Unit ℕ (UR sig nD τ) ℕ cfg0 c where
  A w := W c (Pipeline.arrRef spec0 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => iblk W c 8 t
    | ⟨9, _⟩ => iblk W c 9 t
    | ⟨10, _⟩ => iblk W c 10 t
    | ⟨11, _⟩ => out0_11 (iblk W c 0 t) (iblk W c 1 t) (iblk W c 2 t) (iblk W c 3 t) (iblk W c 4 t) (iblk W c 5 t) (iblk W c 6 t) (iblk W c 7 t) (iblk W c 8 t) (iblk W c 9 t) (iblk W c 10 t)
    | ⟨12, _⟩ => out0_12 (iblk W c 0 t) (iblk W c 1 t) (iblk W c 2 t) (iblk W c 3 t) (iblk W c 4 t) (iblk W c 5 t) (iblk W c 6 t) (iblk W c 7 t) (iblk W c 8 t) (iblk W c 9 t) (iblk W c 10 t)
  Φ _ := Pipeline.ΦA spec0 c
  q _ := fullShare
  owed _ := 0

theorem A_eq (c : Dev nD) (w : Fin cfg0.W) : (dat W c).A w = W c (Pipeline.arrRef spec0 w) := by
  dsimp only [dat]

theorem after0_0 (c : Dev nD) (t : Fin cfg0.N) : (dat W c).after 0 t = iblk W c 0 t := by dsimp only [dat]
theorem after0_1 (c : Dev nD) (t : Fin cfg0.N) : (dat W c).after 1 t = iblk W c 1 t := by dsimp only [dat]
theorem after0_2 (c : Dev nD) (t : Fin cfg0.N) : (dat W c).after 2 t = iblk W c 2 t := by dsimp only [dat]
theorem after0_3 (c : Dev nD) (t : Fin cfg0.N) : (dat W c).after 3 t = iblk W c 3 t := by dsimp only [dat]
theorem after0_4 (c : Dev nD) (t : Fin cfg0.N) : (dat W c).after 4 t = iblk W c 4 t := by dsimp only [dat]
theorem after0_5 (c : Dev nD) (t : Fin cfg0.N) : (dat W c).after 5 t = iblk W c 5 t := by dsimp only [dat]
theorem after0_6 (c : Dev nD) (t : Fin cfg0.N) : (dat W c).after 6 t = iblk W c 6 t := by dsimp only [dat]
theorem after0_7 (c : Dev nD) (t : Fin cfg0.N) : (dat W c).after 7 t = iblk W c 7 t := by dsimp only [dat]
theorem after0_8 (c : Dev nD) (t : Fin cfg0.N) : (dat W c).after 8 t = iblk W c 8 t := by dsimp only [dat]
theorem after0_9 (c : Dev nD) (t : Fin cfg0.N) : (dat W c).after 9 t = iblk W c 9 t := by dsimp only [dat]
theorem after0_10 (c : Dev nD) (t : Fin cfg0.N) : (dat W c).after 10 t = iblk W c 10 t := by dsimp only [dat]
theorem after0_11 (c : Dev nD) (t : Fin cfg0.N) : (dat W c).after 11 t = out0_11 (iblk W c 0 t) (iblk W c 1 t) (iblk W c 2 t) (iblk W c 3 t) (iblk W c 4 t) (iblk W c 5 t) (iblk W c 6 t) (iblk W c 7 t) (iblk W c 8 t) (iblk W c 9 t) (iblk W c 10 t) := by dsimp only [dat]
theorem after0_12 (c : Dev nD) (t : Fin cfg0.N) : (dat W c).after 12 t = out0_12 (iblk W c 0 t) (iblk W c 1 t) (iblk W c 2 t) (iblk W c 3 t) (iblk W c 4 t) (iblk W c 5 t) (iblk W c 6 t) (iblk W c 7 t) (iblk W c 8 t) (iblk W c 9 t) (iblk W c 10 t) := by dsimp only [dat]

theorem before0_0 (c : Dev nD) (t : Fin cfg0.N) (d) : (dat W c).before 0 t d = iblk W c 0 t :=
  before0_0_of W (dat W c) (A_eq W c 0) (after0_0 W c) t d
theorem before0_1 (c : Dev nD) (t : Fin cfg0.N) (d) : (dat W c).before 1 t d = iblk W c 1 t :=
  before0_1_of W (dat W c) (A_eq W c 1) (after0_1 W c) t d
theorem before0_2 (c : Dev nD) (t : Fin cfg0.N) (d) : (dat W c).before 2 t d = iblk W c 2 t :=
  before0_2_of W (dat W c) (A_eq W c 2) (after0_2 W c) t d
theorem before0_3 (c : Dev nD) (t : Fin cfg0.N) (d) : (dat W c).before 3 t d = iblk W c 3 t :=
  before0_3_of W (dat W c) (A_eq W c 3) (after0_3 W c) t d
theorem before0_4 (c : Dev nD) (t : Fin cfg0.N) (d) : (dat W c).before 4 t d = iblk W c 4 t :=
  before0_4_of W (dat W c) (A_eq W c 4) (after0_4 W c) t d
theorem before0_5 (c : Dev nD) (t : Fin cfg0.N) (d) : (dat W c).before 5 t d = iblk W c 5 t :=
  before0_5_of W (dat W c) (A_eq W c 5) (after0_5 W c) t d
theorem before0_6 (c : Dev nD) (t : Fin cfg0.N) (d) : (dat W c).before 6 t d = iblk W c 6 t :=
  before0_6_of W (dat W c) (A_eq W c 6) (after0_6 W c) t d
theorem before0_7 (c : Dev nD) (t : Fin cfg0.N) (d) : (dat W c).before 7 t d = iblk W c 7 t :=
  before0_7_of W (dat W c) (A_eq W c 7) (after0_7 W c) t d
theorem before0_8 (c : Dev nD) (t : Fin cfg0.N) (d) : (dat W c).before 8 t d = iblk W c 8 t :=
  before0_8_of W (dat W c) (A_eq W c 8) (after0_8 W c) t d
theorem before0_9 (c : Dev nD) (t : Fin cfg0.N) (d) : (dat W c).before 9 t d = iblk W c 9 t :=
  before0_9_of W (dat W c) (A_eq W c 9) (after0_9 W c) t d
theorem before0_10 (c : Dev nD) (t : Fin cfg0.N) (d) : (dat W c).before 10 t d = iblk W c 10 t :=
  before0_10_of W (dat W c) (A_eq W c 10) (after0_10 W c) t d

/-! ## The body obligation, at a generic point -/

def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d))
    ∗ (∃ d, owns (c : Thread nD τ) (st0_4 t) fullShare ((dat W c).before 4 t d))
    ∗ (∃ d, owns (c : Thread nD τ) (st0_5 t) fullShare ((dat W c).before 5 t d))
    ∗ (∃ d, owns (c : Thread nD τ) (st0_6 t) fullShare ((dat W c).before 6 t d))
    ∗ (∃ d, owns (c : Thread nD τ) (st0_7 t) fullShare ((dat W c).before 7 t d))
    ∗ (∃ d, owns (c : Thread nD τ) (st0_8 t) fullShare ((dat W c).before 8 t d))
    ∗ (∃ d, owns (c : Thread nD τ) (st0_9 t) fullShare ((dat W c).before 9 t d))
    ∗ (∃ d, owns (c : Thread nD τ) (st0_10 t) fullShare ((dat W c).before 10 t d))
    ∗ (∃ d, owns (c : Thread nD τ) (st0_11 t) fullShare ((dat W c).before 11 t d))
    ∗ (∃ d, owns (c : Thread nD τ) (st0_12 t) fullShare ((dat W c).before 12 t d)))

def bodyPost (c : Dev nD) (t : Fin cfg0.N) : sProp 𝕄 :=
  iprop((dat W c).Φ t.succ ∗ (dat W c).owesAt () t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t)
    ∗ owns (c : Thread nD τ) (st0_3 t) fullShare ((dat W c).after 3 t)
    ∗ owns (c : Thread nD τ) (st0_4 t) fullShare ((dat W c).after 4 t)
    ∗ owns (c : Thread nD τ) (st0_5 t) fullShare ((dat W c).after 5 t)
    ∗ owns (c : Thread nD τ) (st0_6 t) fullShare ((dat W c).after 6 t)
    ∗ owns (c : Thread nD τ) (st0_7 t) fullShare ((dat W c).after 7 t)
    ∗ owns (c : Thread nD τ) (st0_8 t) fullShare ((dat W c).after 8 t)
    ∗ owns (c : Thread nD τ) (st0_9 t) fullShare ((dat W c).after 9 t)
    ∗ owns (c : Thread nD τ) (st0_10 t) fullShare ((dat W c).after 10 t)
    ∗ owns (c : Thread nD τ) (st0_11 t) fullShare ((dat W c).after 11 t)
    ∗ owns (c : Thread nD τ) (st0_12 t) fullShare ((dat W c).after 12 t))

theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0_0, before0_1, before0_2, before0_3, before0_4, before0_5, before0_6, before0_7, before0_8, before0_9, before0_10]
  rw [show (dat W c).Φ t.succ = (dat W c).Φ t.castSucc from rfl,
    show (dat W c).owesAt () t.succ = (dat W c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk W c 0 t) (iblk W c 1 t) (iblk W c 2 t) (iblk W c 3 t) (iblk W c 4 t) (iblk W c 5 t) (iblk W c 6 t) (iblk W c 7 t) (iblk W c 8 t) (iblk W c 9 t) (iblk W c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

end Cert.KernelIdeal.R0

end
-- ==== Proof.Region1StepsI.lean ====
/- Region 1 of the program (the two recurrences): the states a trip makes and the rows a point stores. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.FrameTail
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One time step, and the trips of a point -/

abbrev r1_0 : Rect S512x512 := Rect.unit (s := S512x512) ![0, 0] S512x512.size inb_S512x512_S512x512_0_0
abbrev r1_1 : Rect S16x512 := Rect.unit (s := S16x512) ![0, 0] S16x512.size inb_S16x512_S16x512_0_0
abbrev r1_2 : Rect S1x512 := Rect.unit (s := S1x512) ![0, 0] S1x512.size inb_S1x512_S1x512_0_0
/-- The row of a block the forward direction is at on trip `k`, -/
abbrev rowF (k : Fin k1_t1_loop.trips) : Rect S128x16x512 := Rect.unit (s := S128x16x512) (k1_off1 k) S1x16x512.size (k1_off1_inb k)
/-- and the backward one's. -/
abbrev rowB (k : Fin k1_t1_loop.trips) : Rect S128x16x512 := Rect.unit (s := S128x16x512) (k1_off2 k) S1x16x512.size (k1_off2_inb k)

/-- The two states. -/
abbrev St (F : FTy → Type) : Type := Vec F S16x512 .bf16 × Vec F S16x512 .bf16

/-- Both states after trip `k`, from those before it. -/
def stp (i : grid1.Coords) (x0 : Vec F S128x16x512 .f32) (x1 : Vec F S128x16x512 .f32) (x2 : Vec F S512x512 .bf16) (x3 : Vec F S512x512 .bf16) (x4 : Vec F S16x512 .bf16) (x5 : Vec F S16x512 .bf16) (x6 : Vec F S1x512 .f32) (x7 : Vec F S1x512 .f32) (k : Fin k1_t1_loop.trips) (s : St F) : St F :=
  (k1_pay3 (View.ld x2 r1_0) (View.ld x6 r1_2) s.1 (View.ld x0 (rowF k)),
    k1_pay5 i (View.ld x3 r1_0) (View.ld x5 r1_1) (View.ld x7 r1_2) k s.2 (View.ld x1 (rowB k)))

/-- Both states before trip `k`, from the states the point begins with. -/
def state (i : grid1.Coords) (x0 : Vec F S128x16x512 .f32) (x1 : Vec F S128x16x512 .f32) (x2 : Vec F S512x512 .bf16) (x3 : Vec F S512x512 .bf16) (x4 : Vec F S16x512 .bf16) (x5 : Vec F S16x512 .bf16) (x6 : Vec F S1x512 .f32) (x7 : Vec F S1x512 .f32) (s0 : St F) : ℕ → St F
  | 0 => s0
  | k + 1 => if h : k < k1_t1_loop.trips then stp i x0 x1 x2 x3 x4 x5 x6 x7 ⟨k, h⟩ (state i x0 x1 x2 x3 x4 x5 x6 x7 s0 k) else state i x0 x1 x2 x3 x4 x5 x6 x7 s0 k

/-- The rows the forward direction has stored before trip `k`, last first, -/
def pcsF (i : grid1.Coords) (x0 : Vec F S128x16x512 .f32) (x1 : Vec F S128x16x512 .f32) (x2 : Vec F S512x512 .bf16) (x3 : Vec F S512x512 .bf16) (x4 : Vec F S16x512 .bf16) (x5 : Vec F S16x512 .bf16) (x6 : Vec F S1x512 .f32) (x7 : Vec F S1x512 .f32) (s0 : St F) : ℕ → List (View.Piece (Elt F) S128x16x512 .bf16)
  | 0 => []
  | k + 1 => if h : k < k1_t1_loop.trips then
      ⟨rowF ⟨k, h⟩, k1_pay4 (View.ld x2 r1_0) (View.ld x6 r1_2) (state i x0 x1 x2 x3 x4 x5 x6 x7 s0 k).1 (View.ld x0 (rowF ⟨k, h⟩))⟩ :: pcsF i x0 x1 x2 x3 x4 x5 x6 x7 s0 k
    else pcsF i x0 x1 x2 x3 x4 x5 x6 x7 s0 k

/-- and the backward one. -/
def pcsB (i : grid1.Coords) (x0 : Vec F S128x16x512 .f32) (x1 : Vec F S128x16x512 .f32) (x2 : Vec F S512x512 .bf16) (x3 : Vec F S512x512 .bf16) (x4 : Vec F S16x512 .bf16) (x5 : Vec F S16x512 .bf16) (x6 : Vec F S1x512 .f32) (x7 : Vec F S1x512 .f32) (s0 : St F) : ℕ → List (View.Piece (Elt F) S128x16x512 .bf16)
  | 0 => []
  | k + 1 => if h : k < k1_t1_loop.trips then
      ⟨rowB ⟨k, h⟩, k1_pay6 i (View.ld x3 r1_0) (View.ld x5 r1_1) (View.ld x7 r1_2) ⟨k, h⟩ (state i x0 x1 x2 x3 x4 x5 x6 x7 s0 k).2 (View.ld x1 (rowB ⟨k, h⟩))⟩ :: pcsB i x0 x1 x2 x3 x4 x5 x6 x7 s0 k
    else pcsB i x0 x1 x2 x3 x4 x5 x6 x7 s0 k

section Trip
variable (c : Dev nD) (i : grid1.Coords) (arg1 : Memref sig .tc .vmem S128x16x512 .f32) (harg1 : arg1.IsWhole) (arg2 : Memref sig .tc .vmem S128x16x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S16x512 .bf16) (harg5 : arg5.IsWhole) (arg6 : Memref sig .tc .vmem S16x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S128x16x512 .bf16) (harg9 : arg9.IsWhole) (arg10 : Memref sig .tc .vmem S128x16x512 .bf16) (harg10 : arg10.IsWhole) (arg11 : Memref sig .tc .vmem S16x512 .bf16) (harg11 : arg11.IsWhole) (arg12 : Memref sig .tc .vmem S16x512 .bf16) (harg12 : arg12.IsWhole)
  (x0 : Vec F S128x16x512 .f32) (x1 : Vec F S128x16x512 .f32) (x2 : Vec F S512x512 .bf16) (x3 : Vec F S512x512 .bf16) (x4 : Vec F S16x512 .bf16) (x5 : Vec F S16x512 .bf16) (x6 : Vec F S1x512 .f32) (x7 : Vec F S1x512 .f32) (s0 : St F)

/-- What the run of one trip finds is `stp`, and the row each direction stores is the new state. -/
theorem trip_eq (k : Fin k1_t1_loop.trips) (s : St F) :
    tripR_k1_t1 (F := F) Variants.none c none i arg1 harg1 arg2 harg2 arg3 harg3 arg4 harg4 arg5 harg5 arg6 harg6 arg7 harg7 arg8 harg8 arg9 harg9 arg10 harg10 arg11 harg11 arg12 harg12 (View.ld x2 r1_0) (View.ld x3 r1_0) (View.ld x5 r1_1) (View.ld x6 r1_2) (View.ld x7 r1_2) (harg1.unread x0) (harg2.unread x1) k s
        = stp i x0 x1 x2 x3 x4 x5 x6 x7 k s
      ∧ tripL_k1_t1 (F := F) Variants.none c none i arg1 harg1 arg2 harg2 arg3 harg3 arg4 harg4 arg5 harg5 arg6 harg6 arg7 harg7 arg8 harg8 arg9 harg9 arg10 harg10 arg11 harg11 arg12 harg12 (View.ld x2 r1_0) (View.ld x3 r1_0) (View.ld x5 r1_1) (View.ld x6 r1_2) (View.ld x7 r1_2) (harg1.unread x0) (harg2.unread x1) k s
        = ([⟨rowF k, k1_pay4 (View.ld x2 r1_0) (View.ld x6 r1_2) s.1 (View.ld x0 (rowF k))⟩],
            [⟨rowB k, k1_pay6 i (View.ld x3 r1_0) (View.ld x5 r1_1) (View.ld x7 r1_2) k s.2 (View.ld x1 (rowB k))⟩]) := by
  unfold tripR_k1_t1 tripL_k1_t1 trip_k1_t1 stp
  dsimp only
  simp only [View.readAt_eq_ld]
  rw [harg1.read_unread, harg2.read_unread]
  exact ⟨rfl, rfl⟩

/-- So the loop's state before trip `k` is `state` with the rows stored so far. -/
theorem st_eq (k : ℕ) (hk : k ≤ k1_t1_loop.trips) :
    st_k1_t1 (F := F) Variants.none c none i arg1 harg1 arg2 harg2 arg3 harg3 arg4 harg4 arg5 harg5 arg6 harg6 arg7 harg7 arg8 harg8 arg9 harg9 arg10 harg10 arg11 harg11 arg12 harg12 (View.ld x2 r1_0) (View.ld x3 r1_0) (View.ld x5 r1_1) (View.ld x6 r1_2) (View.ld x7 r1_2) (harg1.unread x0) (harg2.unread x1) s0 k
      = (state i x0 x1 x2 x3 x4 x5 x6 x7 s0 k, pcsF i x0 x1 x2 x3 x4 x5 x6 x7 s0 k, pcsB i x0 x1 x2 x3 x4 x5 x6 x7 s0 k) := by
  induction k with
  | zero => rfl
  | succ k ih =>
    have h : k < k1_t1_loop.trips := hk
    obtain ⟨e1, e2⟩ := trip_eq c i arg1 harg1 arg2 harg2 arg3 harg3 arg4 harg4 arg5 harg5 arg6 harg6 arg7 harg7 arg8 harg8 arg9 harg9 arg10 harg10 arg11 harg11 arg12 harg12 x0 x1 x2 x3 x4 x5 x6 x7 ⟨k, h⟩ (state i x0 x1 x2 x3 x4 x5 x6 x7 s0 k)
    rw [st_k1_t1_succ (F := F) Variants.none c none i arg1 harg1 arg2 harg2 arg3 harg3 arg4 harg4 arg5 harg5 arg6 harg6 arg7 harg7 arg8 harg8 arg9 harg9 arg10 harg10 arg11 harg11 arg12 harg12 (View.ld x2 r1_0) (View.ld x3 r1_0) (View.ld x5 r1_1) (View.ld x6 r1_2) (View.ld x7 r1_2) (harg1.unread x0) (harg2.unread x1) s0 ⟨k, h⟩, ih (Nat.le_of_lt h)]
    rw [e1, e2]
    simp only [state, pcsF, pcsB, dif_pos h]
    rfl

/-- The same at any spelling of the arguments. -/
theorem st_eq_of {v3 v5 : Vec F S512x512 .bf16} {v7 : Vec F S16x512 .bf16} {v9 v11 : Vec F S1x512 .f32} {init : St F} {k : ℕ}
    (h3 : v3 = View.ld x2 r1_0) (h5 : v5 = View.ld x3 r1_0) (h7 : v7 = View.ld x5 r1_1) (h9 : v9 = View.ld x6 r1_2) (h11 : v11 = View.ld x7 r1_2)
    (hi : init = s0) (hk : k = k1_t1_loop.trips) :
    st_k1_t1 (F := F) Variants.none c none i arg1 harg1 arg2 harg2 arg3 harg3 arg4 harg4 arg5 harg5 arg6 harg6 arg7 harg7 arg8 harg8 arg9 harg9 arg10 harg10 arg11 harg11 arg12 harg12 v3 v5 v7 v9 v11 (harg1.unread x0) (harg2.unread x1) init k
      = (state i x0 x1 x2 x3 x4 x5 x6 x7 s0 k1_t1_loop.trips, pcsF i x0 x1 x2 x3 x4 x5 x6 x7 s0 k1_t1_loop.trips, pcsB i x0 x1 x2 x3 x4 x5 x6 x7 s0 k1_t1_loop.trips) := by
  subst h3 h5 h7 h9 h11 hi hk
  exact st_eq c i arg1 harg1 arg2 harg2 arg3 harg3 arg4 harg4 arg5 harg5 arg6 harg6 arg7 harg7 arg8 harg8 arg9 harg9 arg10 harg10 arg11 harg11 arg12 harg12 x0 x1 x2 x3 x4 x5 x6 x7 _ _ le_rfl

end Trip

/-! ## The body's triple -/

/-- The states a point ends with, from those it begins with; -/
def fin (i : grid1.Coords) (x0 : Vec F S128x16x512 .f32) (x1 : Vec F S128x16x512 .f32) (x2 : Vec F S512x512 .bf16) (x3 : Vec F S512x512 .bf16) (x4 : Vec F S16x512 .bf16) (x5 : Vec F S16x512 .bf16) (x6 : Vec F S1x512 .f32) (x7 : Vec F S1x512 .f32) (s0 : St F) : St F := state i x0 x1 x2 x3 x4 x5 x6 x7 s0 k1_t1_loop.trips
/-- what it leaves in the forward output's block -/
def outF (i : grid1.Coords) (x0 : Vec F S128x16x512 .f32) (x1 : Vec F S128x16x512 .f32) (x2 : Vec F S512x512 .bf16) (x3 : Vec F S512x512 .bf16) (x4 : Vec F S16x512 .bf16) (x5 : Vec F S16x512 .bf16) (x6 : Vec F S1x512 .f32) (x7 : Vec F S1x512 .f32) (s0 : St F) : Vec F S128x16x512 .bf16 := View.canon (pcsF i x0 x1 x2 x3 x4 x5 x6 x7 s0 k1_t1_loop.trips)
/-- and in the backward one's; -/
def outB (i : grid1.Coords) (x0 : Vec F S128x16x512 .f32) (x1 : Vec F S128x16x512 .f32) (x2 : Vec F S512x512 .bf16) (x3 : Vec F S512x512 .bf16) (x4 : Vec F S16x512 .bf16) (x5 : Vec F S16x512 .bf16) (x6 : Vec F S1x512 .f32) (x7 : Vec F S1x512 .f32) (s0 : St F) : Vec F S128x16x512 .bf16 := View.canon (pcsB i x0 x1 x2 x3 x4 x5 x6 x7 s0 k1_t1_loop.trips)
/-- what the scratch buffers hold once they were stored into. -/
def scr (s : Vec F S16x512 .bf16) : Vec F S16x512 .bf16 := View.canon [⟨r1_1, s⟩]
/-- The states the first point begins with. -/
def start (x4 x5 : Vec F S16x512 .bf16) : St F := (k1_pay1 (View.ld x4 r1_1), k1_pay2 (View.ld x5 r1_1))
theorem start_of {a b : Vec F S16x512 .bf16} {x4 x5 : Vec F S16x512 .bf16} (h1 : a = k1_pay1 (View.ld x4 r1_1)) (h2 : b = k1_pay2 (View.ld x5 r1_1)) :
    ((a, b) : St F) = start x4 x5 := by rw [h1, h2]; rfl

/-- The states as the scratch buffers keep them. -/
def kept (s : St F) : St F := (k1_pay7 s.1, k1_pay8 s.2)

theorem cover_scr (p : Vec F S16x512 .bf16) (y : S16x512.Idx) :
    ∃ pc ∈ ([⟨r1_1, p⟩] : List (View.Piece (Elt F) S16x512 .bf16)), y ∈ pc.1.set :=
  View.cover_of_tiled [⟨r1_1, p⟩] S16x512.size (by rfl) y

theorem ld_scr (p : Vec F S16x512 .bf16) : View.ld (scr p) r1_1 = p := by
  funext x
  unfold scr
  rw [View.canon_cons]
  exact Rect.overlay_emb r1_1 _ p x

theorem canon_emb {S : Shape} {e : EltTy} (r : Rect S) (p : r.shape.Idx → Elt F e) (L : List (View.Piece (Elt F) S e)) (x : r.shape.Idx) :
    View.canon (⟨r, p⟩ :: L) (r.emb x) = p x := Rect.overlay_emb r _ p x

theorem canon_full {S : Shape} {e : EltTy} (r : Rect S) (p : r.shape.Idx → Elt F e) (L L' : List (View.Piece (Elt F) S e)) (hm : ∀ y, y ∈ r.set) :
    View.canon (⟨r, p⟩ :: L) = View.canon (⟨r, p⟩ :: L') := by
  funext y
  obtain ⟨x, -, rfl⟩ := Finset.mem_map.mp (show y ∈ Finset.univ.map r.emb by rw [Rect.map_emb_univ]; exact hm y)
  rw [canon_emb, canon_emb]

theorem mem_full (y : S16x512.Idx) : y ∈ r1_1.set := by
  have h0 : (y 0).val < 16 := (y 0).isLt
  have h1 : (y 1).val < 512 := (y 1).isLt
  rw [Rect.mem_set_unit, Fin.forall_fin_succ, Fin.forall_fin_succ]
  refine ⟨⟨?_, ?_⟩, ⟨?_, ?_⟩, fun a => a.elim0⟩ <;> simp <;> omega

/-- The last full store is all a buffer holds. -/
theorem read_full {S : Shape} {e : EltTy} (v : View sig .tc .vmem S e) (f : v.ty.Contents (Elt F)) (r : Rect S) (p : r.shape.Idx → Elt F e) (L : List (View.Piece (Elt F) S e))
    (hm : ∀ y, y ∈ r.set) :
    v.read (Elt F) (v.writes (Elt F) f (⟨r, p⟩ :: L)) = View.canon [⟨r, p⟩] := by
  rw [View.read_writes_eq_canon v f (⟨r, p⟩ :: L) fun y => ⟨⟨r, p⟩, List.mem_cons_self, hm y⟩]
  exact canon_full r p L [] hm

/-- The rows the trips before `k` store are those below `k`, in the forward direction; -/
theorem mem_pcsF (i : grid1.Coords) (x0 : Vec F S128x16x512 .f32) (x1 : Vec F S128x16x512 .f32) (x2 : Vec F S512x512 .bf16) (x3 : Vec F S512x512 .bf16) (x4 : Vec F S16x512 .bf16) (x5 : Vec F S16x512 .bf16) (x6 : Vec F S1x512 .f32) (x7 : Vec F S1x512 .f32) (s0 : St F) (k : ℕ) (hk : k ≤ k1_t1_loop.trips) (j : Fin k1_t1_loop.trips) (hj : j.val < k) :
    (⟨rowF j, k1_pay4 (View.ld x2 r1_0) (View.ld x6 r1_2) (state i x0 x1 x2 x3 x4 x5 x6 x7 s0 j).1 (View.ld x0 (rowF j))⟩ : View.Piece (Elt F) S128x16x512 .bf16) ∈ pcsF i x0 x1 x2 x3 x4 x5 x6 x7 s0 k := by
  induction k with
  | zero => exact absurd hj (Nat.not_lt_zero _)
  | succ k ih =>
    have h : k < k1_t1_loop.trips := hk
    simp only [pcsF, dif_pos h]
    rcases Nat.lt_succ_iff_lt_or_eq.mp hj with hlt | heq
    · exact List.mem_cons_of_mem _ (ih (Nat.le_of_lt h) hlt)
    · obtain rfl : j = ⟨k, h⟩ := Fin.ext heq
      exact List.mem_cons_self

theorem mem_pcsB (i : grid1.Coords) (x0 : Vec F S128x16x512 .f32) (x1 : Vec F S128x16x512 .f32) (x2 : Vec F S512x512 .bf16) (x3 : Vec F S512x512 .bf16) (x4 : Vec F S16x512 .bf16) (x5 : Vec F S16x512 .bf16) (x6 : Vec F S1x512 .f32) (x7 : Vec F S1x512 .f32) (s0 : St F) (k : ℕ) (hk : k ≤ k1_t1_loop.trips) (j : Fin k1_t1_loop.trips) (hj : j.val < k) :
    (⟨rowB j, k1_pay6 i (View.ld x3 r1_0) (View.ld x5 r1_1) (View.ld x7 r1_2) j (state i x0 x1 x2 x3 x4 x5 x6 x7 s0 j).2 (View.ld x1 (rowB j))⟩ : View.Piece (Elt F) S128x16x512 .bf16) ∈ pcsB i x0 x1 x2 x3 x4 x5 x6 x7 s0 k := by
  induction k with
  | zero => exact absurd hj (Nat.not_lt_zero _)
  | succ k ih =>
    have h : k < k1_t1_loop.trips := hk
    simp only [pcsB, dif_pos h]
    rcases Nat.lt_succ_iff_lt_or_eq.mp hj with hlt | heq
    · exact List.mem_cons_of_mem _ (ih (Nat.le_of_lt h) hlt)
    · obtain rfl : j = ⟨k, h⟩ := Fin.ext heq
      exact List.mem_cons_self

theorem trips_eq : k1_t1_loop.trips = 128 := by decide

/-- Row `k`'s rectangle, forward, -/
theorem mem_rowF (k : Fin k1_t1_loop.trips) (y : S128x16x512.Idx) : y ∈ (rowF k).set ↔ (y 0).val = k.val := by
  have h1 : (y 1).val < 16 := (y 1).isLt
  have h2 : (y 2).val < 512 := (y 2).isLt
  rw [Rect.mem_set_unit, k1_off1_eq k, Fin.forall_fin_succ, Fin.forall_fin_succ, Fin.forall_fin_succ]
  constructor
  · intro h; have := h.1; simp at this; omega
  · intro h; refine ⟨⟨?_, ?_⟩, ⟨?_, ?_⟩, ⟨?_, ?_⟩, fun a => a.elim0⟩ <;> simp <;> omega

/-- and backward. -/
theorem mem_rowB (k : Fin k1_t1_loop.trips) (y : S128x16x512.Idx) : y ∈ (rowB k).set ↔ (y 0).val = 127 - k.val := by
  have hk : k.val < 128 := lt_of_lt_of_eq k.isLt trips_eq
  have h1 : (y 1).val < 16 := (y 1).isLt
  have h2 : (y 2).val < 512 := (y 2).isLt
  rw [Rect.mem_set_unit, k1_off2_eq k, Fin.forall_fin_succ, Fin.forall_fin_succ, Fin.forall_fin_succ]
  constructor
  · intro h; have := h.1; simp at this; omega
  · intro h; refine ⟨⟨?_, ?_⟩, ⟨?_, ?_⟩, ⟨?_, ?_⟩, fun a => a.elim0⟩ <;> simp <;> omega

theorem cover_pcsF (i : grid1.Coords) (x0 : Vec F S128x16x512 .f32) (x1 : Vec F S128x16x512 .f32) (x2 : Vec F S512x512 .bf16) (x3 : Vec F S512x512 .bf16) (x4 : Vec F S16x512 .bf16) (x5 : Vec F S16x512 .bf16) (x6 : Vec F S1x512 .f32) (x7 : Vec F S1x512 .f32) (s0 : St F) (y : S128x16x512.Idx) : ∃ pc ∈ pcsF i x0 x1 x2 x3 x4 x5 x6 x7 s0 k1_t1_loop.trips, y ∈ pc.1.set := by
  have h0 : (y 0).val < 128 := (y 0).isLt
  refine ⟨_, mem_pcsF i x0 x1 x2 x3 x4 x5 x6 x7 s0 _ le_rfl ⟨(y 0).val, lt_of_lt_of_eq h0 trips_eq.symm⟩ (lt_of_lt_of_eq h0 trips_eq.symm), ?_⟩
  exact (mem_rowF _ y).mpr rfl

theorem cover_pcsB (i : grid1.Coords) (x0 : Vec F S128x16x512 .f32) (x1 : Vec F S128x16x512 .f32) (x2 : Vec F S512x512 .bf16) (x3 : Vec F S512x512 .bf16) (x4 : Vec F S16x512 .bf16) (x5 : Vec F S16x512 .bf16) (x6 : Vec F S1x512 .f32) (x7 : Vec F S1x512 .f32) (s0 : St F) (y : S128x16x512.Idx) : ∃ pc ∈ pcsB i x0 x1 x2 x3 x4 x5 x6 x7 s0 k1_t1_loop.trips, y ∈ pc.1.set := by
  have h0 : (y 0).val < 128 := (y 0).isLt
  refine ⟨_, mem_pcsB i x0 x1 x2 x3 x4 x5 x6 x7 s0 _ le_rfl ⟨127 - (y 0).val, lt_of_lt_of_eq (by omega : 127 - (y 0).val < 128) trips_eq.symm⟩ (lt_of_lt_of_eq (by omega : 127 - (y 0).val < 128) trips_eq.symm), ?_⟩
  exact (mem_rowB _ y).mpr (by show (y 0).val = 127 - (127 - (y 0).val); omega)

section Post
variable (c : Dev nD) (i : grid1.Coords) (arg1 : Memref sig .tc .vmem S128x16x512 .f32) (harg1 : arg1.IsWhole) (arg2 : Memref sig .tc .vmem S128x16x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S16x512 .bf16) (harg5 : arg5.IsWhole) (arg6 : Memref sig .tc .vmem S16x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S128x16x512 .bf16) (harg9 : arg9.IsWhole) (arg10 : Memref sig .tc .vmem S128x16x512 .bf16) (harg10 : arg10.IsWhole) (arg11 : Memref sig .tc .vmem S16x512 .bf16) (harg11 : arg11.IsWhole) (arg12 : Memref sig .tc .vmem S16x512 .bf16) (harg12 : arg12.IsWhole)
  (x0 : Vec F S128x16x512 .f32) (x1 : Vec F S128x16x512 .f32) (x2 : Vec F S512x512 .bf16) (x3 : Vec F S512x512 .bf16) (x4 : Vec F S16x512 .bf16) (x5 : Vec F S16x512 .bf16) (x6 : Vec F S1x512 .f32) (x7 : Vec F S1x512 .f32) (s0 : St F)
  {v3 v5 : Vec F S512x512 .bf16} {v7 : Vec F S16x512 .bf16} {v9 v11 : Vec F S1x512 .f32} {init : St F} {k : ℕ}
  (h3 : v3 = View.ld x2 r1_0) (h5 : v5 = View.ld x3 r1_0) (h7 : v7 = View.ld x5 r1_1) (h9 : v9 = View.ld x6 r1_2) (h11 : v11 = View.ld x7 r1_2)
  (hi : init = s0) (hk : k = k1_t1_loop.trips)
include h3 h5 h7 h9 h11 hi hk

/-- What a point's run leaves in the forward output's block, -/
theorem post_outF (f : arg9.view.ty.Contents (Elt F)) :
    arg9.view.read (Elt F) (arg9.view.writes (Elt F) f (st_k1_t1 (F := F) Variants.none c none i arg1 harg1 arg2 harg2 arg3 harg3 arg4 harg4 arg5 harg5 arg6 harg6 arg7 harg7 arg8 harg8 arg9 harg9 arg10 harg10 arg11 harg11 arg12 harg12 v3 v5 v7 v9 v11 (harg1.unread x0) (harg2.unread x1) init k).2.1)
      = outF i x0 x1 x2 x3 x4 x5 x6 x7 s0 := by
  rw [st_eq_of c i arg1 harg1 arg2 harg2 arg3 harg3 arg4 harg4 arg5 harg5 arg6 harg6 arg7 harg7 arg8 harg8 arg9 harg9 arg10 harg10 arg11 harg11 arg12 harg12 x0 x1 x2 x3 x4 x5 x6 x7 s0 h3 h5 h7 h9 h11 hi hk]
  exact View.read_writes_eq_canon _ _ _ (cover_pcsF i x0 x1 x2 x3 x4 x5 x6 x7 s0)

/-- in the backward one's, -/
theorem post_outB (f : arg10.view.ty.Contents (Elt F)) :
    arg10.view.read (Elt F) (arg10.view.writes (Elt F) f (st_k1_t1 (F := F) Variants.none c none i arg1 harg1 arg2 harg2 arg3 harg3 arg4 harg4 arg5 harg5 arg6 harg6 arg7 harg7 arg8 harg8 arg9 harg9 arg10 harg10 arg11 harg11 arg12 harg12 v3 v5 v7 v9 v11 (harg1.unread x0) (harg2.unread x1) init k).2.2)
      = outB i x0 x1 x2 x3 x4 x5 x6 x7 s0 := by
  rw [st_eq_of c i arg1 harg1 arg2 harg2 arg3 harg3 arg4 harg4 arg5 harg5 arg6 harg6 arg7 harg7 arg8 harg8 arg9 harg9 arg10 harg10 arg11 harg11 arg12 harg12 x0 x1 x2 x3 x4 x5 x6 x7 s0 h3 h5 h7 h9 h11 hi hk]
  exact View.read_writes_eq_canon _ _ _ (cover_pcsB i x0 x1 x2 x3 x4 x5 x6 x7 s0)

/-- and in the two scratch buffers. -/
theorem post_scrF (f : arg11.view.ty.Contents (Elt F)) (L : List (View.Piece (Elt F) S16x512 .bf16)) :
    arg11.view.read (Elt F) (arg11.view.writes (Elt F) f (⟨r1_1, k1_pay7 (st_k1_t1 (F := F) Variants.none c none i arg1 harg1 arg2 harg2 arg3 harg3 arg4 harg4 arg5 harg5 arg6 harg6 arg7 harg7 arg8 harg8 arg9 harg9 arg10 harg10 arg11 harg11 arg12 harg12 v3 v5 v7 v9 v11 (harg1.unread x0) (harg2.unread x1) init k).1.1⟩ :: L))
      = scr (kept (fin i x0 x1 x2 x3 x4 x5 x6 x7 s0)).1 := by
  rw [st_eq_of c i arg1 harg1 arg2 harg2 arg3 harg3 arg4 harg4 arg5 harg5 arg6 harg6 arg7 harg7 arg8 harg8 arg9 harg9 arg10 harg10 arg11 harg11 arg12 harg12 x0 x1 x2 x3 x4 x5 x6 x7 s0 h3 h5 h7 h9 h11 hi hk]
  exact read_full _ _ r1_1 _ _ mem_full

theorem post_scrB (f : arg12.view.ty.Contents (Elt F)) (L : List (View.Piece (Elt F) S16x512 .bf16)) :
    arg12.view.read (Elt F) (arg12.view.writes (Elt F) f (⟨r1_1, k1_pay8 (st_k1_t1 (F := F) Variants.none c none i arg1 harg1 arg2 harg2 arg3 harg3 arg4 harg4 arg5 harg5 arg6 harg6 arg7 harg7 arg8 harg8 arg9 harg9 arg10 harg10 arg11 harg11 arg12 harg12 v3 v5 v7 v9 v11 (harg1.unread x0) (harg2.unread x1) init k).1.2⟩ :: L))
      = scr (kept (fin i x0 x1 x2 x3 x4 x5 x6 x7 s0)).2 := by
  rw [st_eq_of c i arg1 harg1 arg2 harg2 arg3 harg3 arg4 harg4 arg5 harg5 arg6 harg6 arg7 harg7 arg8 harg8 arg9 harg9 arg10 harg10 arg11 harg11 arg12 harg12 x0 x1 x2 x3 x4 x5 x6 x7 s0 h3 h5 h7 h9 h11 hi hk]
  exact read_full _ _ r1_1 _ _ mem_full

end Post

/-- A load of a whole memref read at `x`. -/
theorem ld_read {S : Shape} {e : EltTy} {a : Memref sig .tc .vmem S e} (h : a.IsWhole) (x : Vec F S e) (r : Rect S) :
    a.view.readAt (Elt F) r.toLoadRect (h.unread x) = View.ld x r := by
  rw [View.readAt_eq_ld, h.read_unread]

/-- The branch that initializes the scratch buffers is taken at the first point only. -/
abbrev isFirst (i : grid1.Coords) : Prop := (Scalar.cmpi .ne (Scalar.extui (Scalar.cmpi .eq (BitVec.ofNat 32 (i 0).val) 0#32)) 0#32) = 1#1
theorem coord_val (t : Fin cfg1.N) : (grid1.coords t 0).val = t.val := by
  have ht : t.val < 16 := Nat.lt_of_lt_of_eq t.isLt N_1
  have e0 : (grid1.coords t 0).val = t.val / 1 % 16 := Pipeline.Grid.coords_val t 0 (by decide) rfl
  omega
theorem isFirst_iff : ∀ t : Fin cfg1.N, isFirst (grid1.coords t) ↔ t.val = 0 :=
  (fun t => by
    have ht : t.val < 16 := Nat.lt_of_lt_of_eq t.isLt N_1
    have e0 := coord_val t
    simp only [isFirst, e0]
    word_cmp
   : ∀ t : Fin grid1.N, isFirst (grid1.coords t) ↔ t.val = 0)

end Cert.KernelIdeal.R1

end
-- ==== Proof.Region1BodyI.lean ====
/- Region 1 of the program (the two recurrences): what the body does at a point. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Region1StepsI
public import Idealize.ShloMosaic.Lib.Pipeline.FrameBody
public import Idealize.ShloMosaic.Lib.Pipeline.FrameTail
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at the first point: the states begin at the two initial blocks. -/
theorem sound_first (c : Dev nD) (E : Set ℕ) (i : grid1.Coords) (arg1 : Memref sig .tc .vmem S128x16x512 .f32) (harg1 : arg1.IsWhole) (arg2 : Memref sig .tc .vmem S128x16x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S16x512 .bf16) (harg5 : arg5.IsWhole) (arg6 : Memref sig .tc .vmem S16x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S128x16x512 .bf16) (harg9 : arg9.IsWhole) (arg10 : Memref sig .tc .vmem S128x16x512 .bf16) (harg10 : arg10.IsWhole) (arg11 : Memref sig .tc .vmem S16x512 .bf16) (harg11 : arg11.IsWhole) (arg12 : Memref sig .tc .vmem S16x512 .bf16) (harg12 : arg12.IsWhole) (hc : isFirst i) (x0 : Vec F S128x16x512 .f32) (x1 : Vec F S128x16x512 .f32) (x2 : Vec F S512x512 .bf16) (x3 : Vec F S512x512 .bf16) (x4 : Vec F S16x512 .bf16) (x5 : Vec F S16x512 .bf16) (x6 : Vec F S1x512 .f32) (x7 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outF i x0 x1 x2 x3 x4 x5 x6 x7 (start x4 x5)) ∗ owns (c : Thread nD τ) arg10 fullShare (outB i x0 x1 x2 x3 x4 x5 x6 x7 (start x4 x5)) ∗ owns (c : Thread nD τ) arg11 fullShare (scr (kept (fin i x0 x1 x2 x3 x4 x5 x6 x7 (start x4 x5))).1) ∗ owns (c : Thread nD τ) arg12 fullShare (scr (kept (fin i x0 x1 x2 x3 x4 x5 x6 x7 (start x4 x5))).2)) -∗ K ⟨⟩))
      ⊢ wp frame (wpE (defs₀ (F := F)) Variants.none c none) E (cc1__rnn_kernel i arg1 harg1 arg2 harg2 arg3 harg3 arg4 harg4 arg5 harg5 arg6 harg6 arg7 harg7 arg8 harg8 arg9 harg9 arg10 harg10 arg11 harg11 arg12 harg12) K := by
  simp only [cc1__rnn_kernel_eq_skeleton]; unfold cc1__rnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7;
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    exact post_outF c i _ _ _ _ _ _ _ _ _ _ _ _ _ _ _ _ _ _ _ _ _ _ _ _ x0 x1 x2 x3 x4 x5 x6 x7 (start x4 x5) (ld_read _ _ _) (ld_read _ _ _) (ld_read _ _ _) (ld_read _ _ _) (ld_read _ _ _) (start_of ((View.readCov_full _ _ _ _ _).trans (congrArg k1_pay1 (ld_read _ _ _))) ((View.readCov_full _ _ _ _ _).trans (congrArg k1_pay2 (ld_read _ _ _)))) rfl _
  isplitl [H9]
  · iexists _; isplitr; swap; · iexact H9
    ipureintro
    exact post_outB c i _ _ _ _ _ _ _ _ _ _ _ _ _ _ _ _ _ _ _ _ _ _ _ _ x0 x1 x2 x3 x4 x5 x6 x7 (start x4 x5) (ld_read _ _ _) (ld_read _ _ _) (ld_read _ _ _) (ld_read _ _ _) (ld_read _ _ _) (start_of ((View.readCov_full _ _ _ _ _).trans (congrArg k1_pay1 (ld_read _ _ _))) ((View.readCov_full _ _ _ _ _).trans (congrArg k1_pay2 (ld_read _ _ _)))) rfl _
  isplitl [HS0]
  · iexists _; isplitr; swap; · iexact HS0
    ipureintro
    exact post_scrF c i _ _ _ _ _ _ _ _ _ _ _ _ _ _ _ _ _ _ _ _ _ _ _ _ x0 x1 x2 x3 x4 x5 x6 x7 (start x4 x5) (ld_read _ _ _) (ld_read _ _ _) (ld_read _ _ _) (ld_read _ _ _) (ld_read _ _ _) (start_of ((View.readCov_full _ _ _ _ _).trans (congrArg k1_pay1 (ld_read _ _ _))) ((View.readCov_full _ _ _ _ _).trans (congrArg k1_pay2 (ld_read _ _ _)))) rfl _ _
  iexists _; isplitr; swap; · iexact HS1
  ipureintro
  exact post_scrB c i _ _ _ _ _ _ _ _ _ _ _ _ _ _ _ _ _ _ _ _ _ _ _ _ x0 x1 x2 x3 x4 x5 x6 x7 (start x4 x5) (ld_read _ _ _) (ld_read _ _ _) (ld_read _ _ _) (ld_read _ _ _) (ld_read _ _ _) (start_of ((View.readCov_full _ _ _ _ _).trans (congrArg k1_pay1 (ld_read _ _ _))) ((View.readCov_full _ _ _ _ _).trans (congrArg k1_pay2 (ld_read _ _ _)))) rfl _ _

set_option maxHeartbeats 1000000 in
/-- The body at a later point: the states begin as the scratch buffers keep them. -/
theorem sound_next (c : Dev nD) (E : Set ℕ) (i : grid1.Coords) (arg1 : Memref sig .tc .vmem S128x16x512 .f32) (harg1 : arg1.IsWhole) (arg2 : Memref sig .tc .vmem S128x16x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S16x512 .bf16) (harg5 : arg5.IsWhole) (arg6 : Memref sig .tc .vmem S16x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S128x16x512 .bf16) (harg9 : arg9.IsWhole) (arg10 : Memref sig .tc .vmem S128x16x512 .bf16) (harg10 : arg10.IsWhole) (arg11 : Memref sig .tc .vmem S16x512 .bf16) (harg11 : arg11.IsWhole) (arg12 : Memref sig .tc .vmem S16x512 .bf16) (harg12 : arg12.IsWhole) (hc : ¬ isFirst i) (x0 : Vec F S128x16x512 .f32) (x1 : Vec F S128x16x512 .f32) (x2 : Vec F S512x512 .bf16) (x3 : Vec F S512x512 .bf16) (x4 : Vec F S16x512 .bf16) (x5 : Vec F S16x512 .bf16) (x6 : Vec F S1x512 .f32) (x7 : Vec F S1x512 .f32) (s0 : St F) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare (scr s0.1) ∗ owns (c : Thread nD τ) arg12 fullShare (scr s0.2)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outF i x0 x1 x2 x3 x4 x5 x6 x7 s0) ∗ owns (c : Thread nD τ) arg10 fullShare (outB i x0 x1 x2 x3 x4 x5 x6 x7 s0) ∗ owns (c : Thread nD τ) arg11 fullShare (scr (kept (fin i x0 x1 x2 x3 x4 x5 x6 x7 s0)).1) ∗ owns (c : Thread nD τ) arg12 fullShare (scr (kept (fin i x0 x1 x2 x3 x4 x5 x6 x7 s0)).2)) -∗ K ⟨⟩))
      ⊢ wp frame (wpE (defs₀ (F := F)) Variants.none c none) E (cc1__rnn_kernel i arg1 harg1 arg2 harg2 arg3 harg3 arg4 harg4 arg5 harg5 arg6 harg6 arg7 harg7 arg8 harg8 arg9 harg9 arg10 harg10 arg11 harg11 arg12 harg12) K := by
  simp only [cc1__rnn_kernel_eq_skeleton]; unfold cc1__rnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hs0, HS0⟩, ⟨%fs1, %hs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hs0; obtain rfl := harg12.eq_unread hs1
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    exact post_outF c i _ _ _ _ _ _ _ _ _ _ _ _ _ _ _ _ _ _ _ _ _ _ _ _ x0 x1 x2 x3 x4 x5 x6 x7 s0 (ld_read _ _ _) (ld_read _ _ _) (ld_read _ _ _) (ld_read _ _ _) (ld_read _ _ _) (Prod.ext ((ld_read _ _ _).trans (ld_scr _)) ((ld_read _ _ _).trans (ld_scr _))) rfl _
  isplitl [H9]
  · iexists _; isplitr; swap; · iexact H9
    ipureintro
    exact post_outB c i _ _ _ _ _ _ _ _ _ _ _ _ _ _ _ _ _ _ _ _ _ _ _ _ x0 x1 x2 x3 x4 x5 x6 x7 s0 (ld_read _ _ _) (ld_read _ _ _) (ld_read _ _ _) (ld_read _ _ _) (ld_read _ _ _) (Prod.ext ((ld_read _ _ _).trans (ld_scr _)) ((ld_read _ _ _).trans (ld_scr _))) rfl _
  isplitl [HS0]
  · iexists _; isplitr; swap; · iexact HS0
    ipureintro
    exact post_scrF c i _ _ _ _ _ _ _ _ _ _ _ _ _ _ _ _ _ _ _ _ _ _ _ _ x0 x1 x2 x3 x4 x5 x6 x7 s0 (ld_read _ _ _) (ld_read _ _ _) (ld_read _ _ _) (ld_read _ _ _) (ld_read _ _ _) (Prod.ext ((ld_read _ _ _).trans (ld_scr _)) ((ld_read _ _ _).trans (ld_scr _))) rfl _ _
  iexists _; isplitr; swap; · iexact HS1
  ipureintro
  exact post_scrB c i _ _ _ _ _ _ _ _ _ _ _ _ _ _ _ _ _ _ _ _ _ _ _ _ x0 x1 x2 x3 x4 x5 x6 x7 s0 (ld_read _ _ _) (ld_read _ _ _) (ld_read _ _ _) (ld_read _ _ _) (ld_read _ _ _) (Prod.ext ((ld_read _ _ _).trans (ld_scr _)) ((ld_read _ _ _).trans (ld_scr _))) rfl _ _

end Cert.KernelIdeal.R1

end
-- ==== Proof.Region1I.lean ====
/- Region 1 of the program (the two recurrences): the states carried over the grid, the proof data from any entry contents, and the body obligation. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Region1BodyI
public import Idealize.ShloMosaic.Lib.Pipeline.FrameBody
public import Idealize.ShloMosaic.Lib.Pipeline.FrameTail
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what each core's buffers hold when the region is entered
variable (W : Dev nD → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- The states point `n` begins with. -/
def init (c : Dev nD) : ℕ → St F
  | 0 => start (iblk W c 4 t1_0) (iblk W c 5 t1_0)
  | n + 1 => if h : n < cfg1.N then kept (fin (grid1.coords ⟨n, h⟩) (iblk W c 0 ⟨n, h⟩) (iblk W c 1 ⟨n, h⟩) (iblk W c 2 ⟨n, h⟩) (iblk W c 3 ⟨n, h⟩) (iblk W c 4 ⟨n, h⟩) (iblk W c 5 ⟨n, h⟩) (iblk W c 6 ⟨n, h⟩) (iblk W c 7 ⟨n, h⟩) (init c n)) else init c n

theorem init_succ (c : Dev nD) (t : Fin cfg1.N) :
    init W c (t.val + 1) = kept (fin (grid1.coords t) (iblk W c 0 t) (iblk W c 1 t) (iblk W c 2 t) (iblk W c 3 t) (iblk W c 4 t) (iblk W c 5 t) (iblk W c 6 t) (iblk W c 7 t) (init W c t.val)) := by
  conv => lhs; unfold init
  rw [dif_pos t.isLt]

/-- The scratch buffers as memrefs. -/
abbrev scM0 : Memref sig .tc .vmem S16x512 .bf16 := Memref.whole cc1_scratch0
abbrev scM1 : Memref sig .tc .vmem S16x512 .bf16 := Memref.whole cc1_scratch1

/-- What rides along untouched: the scoped buffers of the other regions and the generator register. -/
def rest (c : Dev nD) : sProp 𝕄 :=
  iprop(Pipeline.scopedRestBut (Ix := Unit) (Name := ℕ) (U := UR sig nD τ) (Lvl := ℕ) (Val := Elt F) spec1 c [cc1_scratch0, cc1_scratch1] ∗ ∃ r, prngReg c r)

/-- The invariant before point `n`: the scratch buffers at anything before the first, at the states carried after it. -/
def Phi (c : Dev nD) : ℕ → sProp 𝕄
  | 0 => iprop(((∃ d, owns (c : Thread nD τ) scM0 fullShare d) ∗ (∃ d, owns (c : Thread nD τ) scM1 fullShare d)) ∗ rest c)
  | n + 1 => iprop((owns (c : Thread nD τ) scM0 fullShare (scr (init W c (n + 1)).1) ∗ owns (c : Thread nD τ) scM1 fullShare (scr (init W c (n + 1)).2)) ∗ rest c)

/-- The proof data: each input's buffer keeps its block, each output's holds the rows the point's trips stored. -/
def dat (c : Dev nD) : Dat τ (Elt F) Unit ℕ (UR sig nD τ) ℕ cfg1 c where
  A w := W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => outF (grid1.coords t) (iblk W c 0 t) (iblk W c 1 t) (iblk W c 2 t) (iblk W c 3 t) (iblk W c 4 t) (iblk W c 5 t) (iblk W c 6 t) (iblk W c 7 t) (init W c t.val)
    | ⟨9, _⟩ => outB (grid1.coords t) (iblk W c 0 t) (iblk W c 1 t) (iblk W c 2 t) (iblk W c 3 t) (iblk W c 4 t) (iblk W c 5 t) (iblk W c 6 t) (iblk W c 7 t) (init W c t.val)
  Φ t := Phi W c t.val
  q _ := fullShare
  owed _ := 0

theorem A_eq (c : Dev nD) (w : Fin cfg1.W) : (dat W c).A w = W c (Pipeline.arrRef spec1 w) := by
  dsimp only [dat]
theorem after1_0 (c : Dev nD) (t : Fin cfg1.N) : (dat W c).after 0 t = iblk W c 0 t := by dsimp only [dat]
theorem after1_1 (c : Dev nD) (t : Fin cfg1.N) : (dat W c).after 1 t = iblk W c 1 t := by dsimp only [dat]
theorem after1_2 (c : Dev nD) (t : Fin cfg1.N) : (dat W c).after 2 t = iblk W c 2 t := by dsimp only [dat]
theorem after1_3 (c : Dev nD) (t : Fin cfg1.N) : (dat W c).after 3 t = iblk W c 3 t := by dsimp only [dat]
theorem after1_4 (c : Dev nD) (t : Fin cfg1.N) : (dat W c).after 4 t = iblk W c 4 t := by dsimp only [dat]
theorem after1_5 (c : Dev nD) (t : Fin cfg1.N) : (dat W c).after 5 t = iblk W c 5 t := by dsimp only [dat]
theorem after1_6 (c : Dev nD) (t : Fin cfg1.N) : (dat W c).after 6 t = iblk W c 6 t := by dsimp only [dat]
theorem after1_7 (c : Dev nD) (t : Fin cfg1.N) : (dat W c).after 7 t = iblk W c 7 t := by dsimp only [dat]
theorem after1_8 (c : Dev nD) (t : Fin cfg1.N) : (dat W c).after 8 t = outF (grid1.coords t) (iblk W c 0 t) (iblk W c 1 t) (iblk W c 2 t) (iblk W c 3 t) (iblk W c 4 t) (iblk W c 5 t) (iblk W c 6 t) (iblk W c 7 t) (init W c t.val) := by dsimp only [dat]
theorem after1_9 (c : Dev nD) (t : Fin cfg1.N) : (dat W c).after 9 t = outB (grid1.coords t) (iblk W c 0 t) (iblk W c 1 t) (iblk W c 2 t) (iblk W c 3 t) (iblk W c 4 t) (iblk W c 5 t) (iblk W c 6 t) (iblk W c 7 t) (init W c t.val) := by dsimp only [dat]

theorem before1_0 (c : Dev nD) (t : Fin cfg1.N) (d) : (dat W c).before 0 t d = iblk W c 0 t :=
  ((dat W c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dat W c).before 1 t d = iblk W c 1 t :=
  ((dat W c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dat W c).before 2 t d = iblk W c 2 t :=
  ((dat W c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dat W c).before 3 t d = iblk W c 3 t :=
  ((dat W c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (dat W c).before 4 t d = iblk W c 4 t :=
  ((dat W c).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)
theorem before1_5 (c : Dev nD) (t : Fin cfg1.N) (d) : (dat W c).before 5 t d = iblk W c 5 t :=
  ((dat W c).before_in_eq_fetched 5 rfl (fun _ => rfl) (fun _ _ _ => rfl) (fun t => by rw [after1_5]; unfold Dat.blockOf iblk; rw [A_eq]; try rfl) t d).trans
    (by unfold Dat.fetched Dat.blockOf iblk; rw [A_eq]; try rfl)
theorem before1_6 (c : Dev nD) (t : Fin cfg1.N) (d) : (dat W c).before 6 t d = iblk W c 6 t :=
  ((dat W c).before_in_eq_fetched 6 rfl (fun _ => rfl) (fun _ _ _ => rfl) (fun t => by rw [after1_6]; unfold Dat.blockOf iblk; rw [A_eq]; try rfl) t d).trans
    (by unfold Dat.fetched Dat.blockOf iblk; rw [A_eq]; try rfl)
theorem before1_7 (c : Dev nD) (t : Fin cfg1.N) (d) : (dat W c).before 7 t d = iblk W c 7 t :=
  ((dat W c).before_in_eq_fetched 7 rfl (fun _ => rfl) (fun _ _ _ => rfl) (fun t => by rw [after1_7]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg1.N) : sProp 𝕄 :=
  iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d))
    ∗ (∃ d, owns (c : Thread nD τ) (st1_4 t) fullShare ((dat W c).before 4 t d))
    ∗ (∃ d, owns (c : Thread nD τ) (st1_5 t) fullShare ((dat W c).before 5 t d))
    ∗ (∃ d, owns (c : Thread nD τ) (st1_6 t) fullShare ((dat W c).before 6 t d))
    ∗ (∃ d, owns (c : Thread nD τ) (st1_7 t) fullShare ((dat W c).before 7 t d))
    ∗ (∃ d, owns (c : Thread nD τ) (st1_8 t) fullShare ((dat W c).before 8 t d))
    ∗ (∃ d, owns (c : Thread nD τ) (st1_9 t) fullShare ((dat W c).before 9 t d)))

/-- and what it returns. -/
def bodyPost (c : Dev nD) (t : Fin cfg1.N) : sProp 𝕄 :=
  iprop((dat W c).Φ t.succ ∗ (dat W c).owesAt () t.succ
    ∗ owns (c : Thread nD τ) (st1_0 t) fullShare ((dat W c).after 0 t)
    ∗ owns (c : Thread nD τ) (st1_1 t) fullShare ((dat W c).after 1 t)
    ∗ owns (c : Thread nD τ) (st1_2 t) fullShare ((dat W c).after 2 t)
    ∗ owns (c : Thread nD τ) (st1_3 t) fullShare ((dat W c).after 3 t)
    ∗ owns (c : Thread nD τ) (st1_4 t) fullShare ((dat W c).after 4 t)
    ∗ owns (c : Thread nD τ) (st1_5 t) fullShare ((dat W c).after 5 t)
    ∗ owns (c : Thread nD τ) (st1_6 t) fullShare ((dat W c).after 6 t)
    ∗ owns (c : Thread nD τ) (st1_7 t) fullShare ((dat W c).after 7 t)
    ∗ owns (c : Thread nD τ) (st1_8 t) fullShare ((dat W c).after 8 t)
    ∗ owns (c : Thread nD τ) (st1_9 t) fullShare ((dat W c).after 9 t))

set_option maxHeartbeats 1000000 in
/-- The body at any point: the first by `sound_first`, a later one by `sound_next`. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before1_0, before1_1, before1_2, before1_3, before1_4, before1_5, before1_6, before1_7]
  rw [show (dat W c).Φ t.succ = Phi W c (t.val + 1) from rfl, show (dat W c).Φ t.castSucc = Phi W c t.val from rfl,
    show (dat W c).owesAt () t.succ = (dat W c).owesAt () t.castSucc from rfl,
    after1_0, after1_1, after1_2, after1_3, after1_4, after1_5, after1_6, after1_7, after1_8, after1_9]
  have hs : Phi W c (t.val + 1) = iprop((owns (c : Thread nD τ) scM0 fullShare (scr (init W c (t.val + 1)).1) ∗ owns (c : Thread nD τ) scM1 fullShare (scr (init W c (t.val + 1)).2)) ∗ rest c) := rfl
  rw [hs, init_succ W c t]
  by_cases h0 : t.val = 0
  · obtain rfl : t = t1_0 := Fin.ext h0
    rw [show Phi W c t1_0.val = iprop(((∃ d, owns (c : Thread nD τ) scM0 fullShare d) ∗ (∃ d, owns (c : Thread nD τ) scM1 fullShare d)) ∗ rest c) from rfl,
      show init W c t1_0.val = start (iblk W c 4 t1_0) (iblk W c 5 t1_0) from rfl]
    iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_first c Set.univ (grid1.coords t1_0) _ _ _ _ _ _ _ _ _ _ _ _ _ _ _ _ _ _ _ _ _ _ _ _ ((isFirst_iff t1_0).mpr rfl) (iblk W c 0 t1_0) (iblk W c 1 t1_0) (iblk W c 2 t1_0) (iblk W c 3 t1_0) (iblk W c 4 t1_0) (iblk W c 5 t1_0) (iblk W c 6 t1_0) (iblk W c 7 t1_0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hr]
    · isplitl [HS0 HS1]
      · isplitl [HS0]; · iexact HS0
        iexact HS1
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · obtain ⟨n, hn⟩ : ∃ n, t.val = n + 1 := Nat.exists_eq_succ_of_ne_zero h0
    rw [show Phi W c t.val = iprop((owns (c : Thread nD τ) scM0 fullShare (scr (init W c t.val).1) ∗ owns (c : Thread nD τ) scM1 fullShare (scr (init W c t.val).2)) ∗ rest c) by rw [hn]; rfl]
    iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_next c Set.univ (grid1.coords t) _ _ _ _ _ _ _ _ _ _ _ _ _ _ _ _ _ _ _ _ _ _ _ _ (fun h => h0 ((isFirst_iff t).mp h)) (iblk W c 0 t) (iblk W c 1 t) (iblk W c 2 t) (iblk W c 3 t) (iblk W c 4 t) (iblk W c 5 t) (iblk W c 6 t) (iblk W c 7 t) (init W c t.val) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hr]
    · isplitl [HS0 HS1]
      · isplitl [HS0]; · iexact HS0
        iexact HS1
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat (F := F) W c) (defs₀ (F := F)) Variants.none () Set.univ := fun t => by
  rw [bigSep_W1, bigSep_W1, defs₀_row]
  exact triple_restated (sound_body W c t) rfl .rfl fun _ => .rfl

/-- The region's scoped rest and the generator register make the invariant before the first point, -/
theorem hin (c : Dev nD) : iprop(Pipeline.scopedRest (Ix := Unit) (Name := ℕ) (U := UR sig nD τ) (Lvl := ℕ) (Val := Elt F) spec1 c ∗ ∃ r, prngReg c r) ⊢ (dat W c).Φ 0 := by
  rw [show (dat W c).Φ 0 = iprop(((∃ d, owns (c : Thread nD τ) scM0 fullShare d) ∗ (∃ d, owns (c : Thread nD τ) scM1 fullShare d)) ∗ rest c) from rfl]
  rw [scopedRest1_split]
  unfold rest
  simp only [scM0, scM1, owns_whole]
  iintro ⟨⟨HS, Hr⟩, Hp⟩
  isplitl [HS]; · iexact HS
  isplitl [Hr]; · iexact Hr
  iexact Hp

/-- and the invariant after the last point gives them back. -/
theorem hout (c : Dev nD) : (dat W c).Φ (Fin.last cfg1.N) ⊢ iprop(Pipeline.scopedRest (Ix := Unit) (Name := ℕ) (U := UR sig nD τ) (Lvl := ℕ) (Val := Elt F) spec1 c ∗ ∃ r, prngReg c r) := by
  rw [show (dat W c).Φ (Fin.last cfg1.N) = Phi W c (15 + 1) from congrArg (Phi W c) N_1,
    show Phi W c (15 + 1) = iprop((owns (c : Thread nD τ) scM0 fullShare (scr (init W c (15 + 1)).1) ∗ owns (c : Thread nD τ) scM1 fullShare (scr (init W c (15 + 1)).2)) ∗ rest c) from rfl]
  rw [scopedRest1_split]
  unfold rest
  simp only [scM0, scM1, owns_whole]
  iintro ⟨⟨HS0, HS1⟩, Hr, Hp⟩
  isplitr [Hp]; swap; · iexact Hp
  isplitr [Hr]; swap; · iexact Hr
  isplitl [HS0]
  · iexists _; iexact HS0
  iexists _; iexact HS1

end Cert.KernelIdeal.R1

end
-- ==== Proof.Region2I.lean ====
/- Region 2 of the program (the classifier and the softmax): what its body leaves in each output window's buffer, as a function of the
   input windows' blocks, the proof data from any entry contents, and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameTail
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what each core's buffers hold when the region is entered
variable (W : Dev nD → Valuation τ sig (Elt F))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))

theorem before2_0_of {c : Dev nD} (dat : Dat τ (Elt F) Unit ℕ (UR sig nD τ) ℕ cfg2 c) (hA : dat.A 0 = W c (Pipeline.arrRef spec2 0))
    (hafter : ∀ t, dat.after 0 t = iblk W c 0 t) (t : Fin cfg2.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before2_1_of {c : Dev nD} (dat : Dat τ (Elt F) Unit ℕ (UR sig nD τ) ℕ cfg2 c) (hA : dat.A 1 = W c (Pipeline.arrRef spec2 1))
    (hafter : ∀ t, dat.after 1 t = iblk W c 1 t) (t : Fin cfg2.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_2_of {c : Dev nD} (dat : Dat τ (Elt F) Unit ℕ (UR sig nD τ) ℕ cfg2 c) (hA : dat.A 2 = W c (Pipeline.arrRef spec2 2))
    (hafter : ∀ t, dat.after 2 t = iblk W c 2 t) (t : Fin cfg2.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before2_3_of {c : Dev nD} (dat : Dat τ (Elt F) Unit ℕ (UR sig nD τ) ℕ cfg2 c) (hA : dat.A 3 = W c (Pipeline.arrRef spec2 3))
    (hafter : ∀ t, dat.after 3 t = iblk W c 3 t) (t : Fin cfg2.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before2_4_of {c : Dev nD} (dat : Dat τ (Elt F) Unit ℕ (UR sig nD τ) ℕ cfg2 c) (hA : dat.A 4 = W c (Pipeline.arrRef spec2 4))
    (hafter : ∀ t, dat.after 4 t = iblk W c 4 t) (t : Fin cfg2.N) (d) : dat.before 4 t d = iblk W c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-! ## The body's accesses -/

abbrev r2_0 : Rect S128x16x512 := Rect.unit (s := S128x16x512) ![0, 0, 0] S128x16x512.size inb_S128x16x512_S128x16x512_0_0_0
abbrev r2_1 : Rect S512x256 := Rect.unit (s := S512x256) ![0, 0] S512x256.size inb_S512x256_S512x256_0_0
abbrev r2_2 : Rect S1x256 := Rect.unit (s := S1x256) ![0, 0] S1x256.size inb_S1x256_S1x256_0_0
abbrev r2_3 : Rect S128x16x256 := Rect.unit (s := S128x16x256) ![0, 0, 0] S128x16x256.size inb_S128x16x256_S128x16x256_0_0_0

/-! ## What the body leaves in each output window's buffer -/

def out2_5 (x0 : Vec F S128x16x512 .bf16) (x1 : Vec F S128x16x512 .bf16) (x2 : Vec F S512x256 .f32) (x3 : Vec F S512x256 .f32) (x4 : Vec F S1x256 .f32) : Vec F S128x16x256 .f32 :=
  View.canon [⟨r2_3, k2_pay4 (View.ld x0 r2_0) (View.ld x1 r2_0) (View.ld x2 r2_1) (View.ld x3 r2_1) (View.ld x4 r2_2)⟩]

theorem cover2_5 (p0 : Vec F S128x16x256 .f32) (y : S128x16x256.Idx) :
    ∃ pc ∈ ([⟨r2_3, p0⟩] : List (View.Piece (Elt F) S128x16x256 .f32)), y ∈ pc.1.set :=
  View.cover_of_tiled [⟨r2_3, p0⟩] S128x16x256.size (by rfl) y

def out2_6 (x0 : Vec F S128x16x512 .bf16) (x1 : Vec F S128x16x512 .bf16) (x2 : Vec F S512x256 .f32) (x3 : Vec F S512x256 .f32) (x4 : Vec F S1x256 .f32) : Vec F S128x16x256 .f32 :=
  View.canon [⟨r2_3, k2_pay1 (k2_pay3 (View.ld x0 r2_0) (View.ld x1 r2_0) (View.ld x2 r2_1) (View.ld x3 r2_1) (View.ld x4 r2_2))⟩]

theorem cover2_6 (p0 : Vec F S128x16x256 .f32) (y : S128x16x256.Idx) :
    ∃ pc ∈ ([⟨r2_3, p0⟩] : List (View.Piece (Elt F) S128x16x256 .f32)), y ∈ pc.1.set :=
  View.cover_of_tiled [⟨r2_3, p0⟩] S128x16x256.size (by rfl) y

/-! ## The body's triple -/

set_option maxHeartbeats 1000000 in
/-- The body on whole staging memrefs, from the inputs' contents to what it leaves. -/
theorem sound_kernel (c : Dev nD) (E : Set ℕ) (i : grid2.Coords) (arg1 : Memref sig .tc .vmem S128x16x512 .bf16) (harg1 : arg1.IsWhole) (arg2 : Memref sig .tc .vmem S128x16x512 .bf16) (harg2 : arg2.IsWhole) (arg3 : Memref sig .tc .vmem S512x256 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S128x16x256 .f32) (harg6 : arg6.IsWhole) (arg7 : Memref sig .tc .vmem S128x16x256 .f32) (harg7 : arg7.IsWhole)
    (x0 : Vec F S128x16x512 .bf16) (x1 : Vec F S128x16x512 .bf16) (x2 : Vec F S512x256 .f32) (x3 : Vec F S512x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4) ∗ owns (c : Thread nD τ) arg7 fullShare (out2_6 x0 x1 x2 x3 x4)) -∗ K ⟨⟩))
      ⊢ wp frame (wpE (defs₀ (F := F)) Variants.none c none) E (cc2__cls_kernel i arg1 harg1 arg2 harg2 arg3 harg3 arg4 harg4 arg5 harg5 arg6 harg6 arg7 harg7) K := by
  simp only [cc2__cls_kernel_eq_skeleton]; unfold cc2__cls_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_6 _)

/-! ## The pipeline's proof data -/

/-- The proof data: each input's buffer keeps its block, each output's holds what the body stored; the rest is untouched. -/
def dat (c : Dev nD) : Dat τ (Elt F) Unit ℕ (UR sig nD τ) ℕ cfg2 c where
  A w := W c (Pipeline.arrRef spec2 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => out2_5 (iblk W c 0 t) (iblk W c 1 t) (iblk W c 2 t) (iblk W c 3 t) (iblk W c 4 t)
    | ⟨6, _⟩ => out2_6 (iblk W c 0 t) (iblk W c 1 t) (iblk W c 2 t) (iblk W c 3 t) (iblk W c 4 t)
  Φ _ := Pipeline.ΦA spec2 c
  q _ := fullShare
  owed _ := 0

theorem A_eq (c : Dev nD) (w : Fin cfg2.W) : (dat W c).A w = W c (Pipeline.arrRef spec2 w) := by
  dsimp only [dat]

theorem after2_0 (c : Dev nD) (t : Fin cfg2.N) : (dat W c).after 0 t = iblk W c 0 t := by dsimp only [dat]
theorem after2_1 (c : Dev nD) (t : Fin cfg2.N) : (dat W c).after 1 t = iblk W c 1 t := by dsimp only [dat]
theorem after2_2 (c : Dev nD) (t : Fin cfg2.N) : (dat W c).after 2 t = iblk W c 2 t := by dsimp only [dat]
theorem after2_3 (c : Dev nD) (t : Fin cfg2.N) : (dat W c).after 3 t = iblk W c 3 t := by dsimp only [dat]
theorem after2_4 (c : Dev nD) (t : Fin cfg2.N) : (dat W c).after 4 t = iblk W c 4 t := by dsimp only [dat]
theorem after2_5 (c : Dev nD) (t : Fin cfg2.N) : (dat W c).after 5 t = out2_5 (iblk W c 0 t) (iblk W c 1 t) (iblk W c 2 t) (iblk W c 3 t) (iblk W c 4 t) := by dsimp only [dat]
theorem after2_6 (c : Dev nD) (t : Fin cfg2.N) : (dat W c).after 6 t = out2_6 (iblk W c 0 t) (iblk W c 1 t) (iblk W c 2 t) (iblk W c 3 t) (iblk W c 4 t) := by dsimp only [dat]

theorem before2_0 (c : Dev nD) (t : Fin cfg2.N) (d) : (dat W c).before 0 t d = iblk W c 0 t :=
  before2_0_of W (dat W c) (A_eq W c 0) (after2_0 W c) t d
theorem before2_1 (c : Dev nD) (t : Fin cfg2.N) (d) : (dat W c).before 1 t d = iblk W c 1 t :=
  before2_1_of W (dat W c) (A_eq W c 1) (after2_1 W c) t d
theorem before2_2 (c : Dev nD) (t : Fin cfg2.N) (d) : (dat W c).before 2 t d = iblk W c 2 t :=
  before2_2_of W (dat W c) (A_eq W c 2) (after2_2 W c) t d
theorem before2_3 (c : Dev nD) (t : Fin cfg2.N) (d) : (dat W c).before 3 t d = iblk W c 3 t :=
  before2_3_of W (dat W c) (A_eq W c 3) (after2_3 W c) t d
theorem before2_4 (c : Dev nD) (t : Fin cfg2.N) (d) : (dat W c).before 4 t d = iblk W c 4 t :=
  before2_4_of W (dat W c) (A_eq W c 4) (after2_4 W c) t d

/-! ## The body obligation, at a generic point -/

def bodyPre (c : Dev nD) (t : Fin cfg2.N) : sProp 𝕄 :=
  iprop((dat W c).Φ t.castSucc ∗ (dat W c).owesAt () t.castSucc
    ∗ (∃ d, owns (c : Thread nD τ) (st2_0 t) fullShare ((dat W c).before 0 t d))
    ∗ (∃ d, owns (c : Thread nD τ) (st2_1 t) fullShare ((dat W c).before 1 t d))
    ∗ (∃ d, owns (c : Thread nD τ) (st2_2 t) fullShare ((dat W c).before 2 t d))
    ∗ (∃ d, owns (c : Thread nD τ) (st2_3 t) fullShare ((dat W c).before 3 t d))
    ∗ (∃ d, owns (c : Thread nD τ) (st2_4 t) fullShare ((dat W c).before 4 t d))
    ∗ (∃ d, owns (c : Thread nD τ) (st2_5 t) fullShare ((dat W c).before 5 t d))
    ∗ (∃ d, owns (c : Thread nD τ) (st2_6 t) fullShare ((dat W c).before 6 t d)))

def bodyPost (c : Dev nD) (t : Fin cfg2.N) : sProp 𝕄 :=
  iprop((dat W c).Φ t.succ ∗ (dat W c).owesAt () t.succ
    ∗ owns (c : Thread nD τ) (st2_0 t) fullShare ((dat W c).after 0 t)
    ∗ owns (c : Thread nD τ) (st2_1 t) fullShare ((dat W c).after 1 t)
    ∗ owns (c : Thread nD τ) (st2_2 t) fullShare ((dat W c).after 2 t)
    ∗ owns (c : Thread nD τ) (st2_3 t) fullShare ((dat W c).after 3 t)
    ∗ owns (c : Thread nD τ) (st2_4 t) fullShare ((dat W c).after 4 t)
    ∗ owns (c : Thread nD τ) (st2_5 t) fullShare ((dat W c).after 5 t)
    ∗ owns (c : Thread nD τ) (st2_6 t) fullShare ((dat W c).after 6 t))

theorem sound_body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before2_0, before2_1, before2_2, before2_3, before2_4]
  rw [show (dat W c).Φ t.succ = (dat W c).Φ t.castSucc from rfl,
    show (dat W c).owesAt () t.succ = (dat W c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid2.coords t) _ _ _ _ _ _ _ _ _ _ _ _ _ _ (iblk W c 0 t) (iblk W c 1 t) (iblk W c 2 t) (iblk W c 3 t) (iblk W c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg2.N) :
    defs₀ (F := F) .tc cfg2.body (cfg2.bodyArgs t (cfg2.slots t)) = bodyAt2 t := by
  unfold defs₀; rw [Defs.onTc_tc]

theorem body_obligation (c : Dev nD) : BodyObligation (dat (F := F) W c) (defs₀ (F := F)) Variants.none () Set.univ := fun t => by
  rw [bigSep_W2, bigSep_W2, defs₀_row]
  exact triple_restated (sound_body W c t) rfl .rfl fun _ => .rfl

end Cert.KernelIdeal.R2

end
-- ==== Proof.RunI.lean ====
/- The whole run of the program from any memory: the valuation of the buffers after each host stretch and each region, the three region
   records over their proof data, and that every weakly fair execution terminates with every unscoped buffer at the last valuation. -/
module

public import proofs.«01_k».proof.Proof.Gen.KernelIdeal.Regions
public import proofs.«01_k».proof.Proof.Region0I
public import proofs.«01_k».proof.Proof.Region1I
public import proofs.«01_k».proof.Proof.Region2I
public import Idealize.ShloMosaic.Lib.Pipeline.RegionArraysS

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem Idealize.SL.ProofMode
open Idealize.ShloMosaic.Rounds Idealize.ShloMosaic.Pipeline
open Idealize.ShloMosaic.StableHlo

variable {F : FTy → Type} [FloatOps F] [Named F]

local notation "𝕄" => MT nD τ sig Unit (Elt F) ℕ (UR sig nD τ) ℕ

variable (m : (ℓ : Loc nD τ sig) → Buf (Elt F) ℓ)

/-- The buffers when region 0 begins, -/
def U1 (c : Dev nD) : Valuation τ sig (Elt F) := StableHlo.after hostOps0 (V0 m c)
/-- when it ends, -/
def U2 (c : Dev nD) : Valuation τ sig (Elt F) := afterRegion (R0.dat (U1 m) c) (U1 m c)
/-- when region 1 begins, -/
def U3 (c : Dev nD) : Valuation τ sig (Elt F) := StableHlo.after hostOps1 (U2 m c)
/-- when it ends, -/
def U4 (c : Dev nD) : Valuation τ sig (Elt F) := afterRegion (R1.dat (U3 m) c) (U3 m c)
/-- when region 2 begins, -/
def U5 (c : Dev nD) : Valuation τ sig (Elt F) := StableHlo.after hostOps2 (U4 m c)
/-- when it ends, -/
def U6 (c : Dev nD) : Valuation τ sig (Elt F) := afterRegion (R2.dat (U5 m) c) (U5 m c)
/-- and at the end. -/
def U7 (c : Dev nD) : Valuation τ sig (Elt F) := StableHlo.after hostOps3 (U6 m c)

theorem U1_of (c : Dev nD) (r : Ref sig .tc) (h : r ∉ hostOps0_W) : U1 m c r = V0 m c r :=
  StableHlo.after_of_writes_sub hostOps0 _ hostOps0_writes h
theorem U3_of (c : Dev nD) (r : Ref sig .tc) (h : r ∉ hostOps1_W) : U3 m c r = U2 m c r :=
  StableHlo.after_of_writes_sub hostOps1 _ hostOps1_writes h
theorem U5_of (c : Dev nD) (r : Ref sig .tc) (h : r ∉ hostOps2_W) : U5 m c r = U4 m c r :=
  StableHlo.after_of_writes_sub hostOps2 _ hostOps2_writes h
theorem U7_of (c : Dev nD) (r : Ref sig .tc) (h : r ∉ hostOps3_W) : U7 m c r = U6 m c r :=
  StableHlo.after_of_writes_sub hostOps3 _ hostOps3_writes h
theorem U2_of (c : Dev nD) (r : Ref sig .tc) (h : ∀ w, Pipeline.arrRef spec0 w = r → (spec0 w).isOut = false) : U2 m c r = U1 m c r :=
  afterRegion_keeps (R0.dat (U1 m) c) (U1 m c) winFacts0.arr_inj (fun w => R0.A_eq (U1 m) c w) r h
theorem U4_of (c : Dev nD) (r : Ref sig .tc) (h : ∀ w, Pipeline.arrRef spec1 w = r → (spec1 w).isOut = false) : U4 m c r = U3 m c r :=
  afterRegion_keeps (R1.dat (U3 m) c) (U3 m c) winFacts1.arr_inj (fun w => R1.A_eq (U3 m) c w) r h
theorem U6_of (c : Dev nD) (r : Ref sig .tc) (h : ∀ w, Pipeline.arrRef spec2 w = r → (spec2 w).isOut = false) : U6 m c r = U5 m c r :=
  afterRegion_keeps (R2.dat (U5 m) c) (U5 m c) winFacts2.arr_inj (fun w => R2.A_eq (U5 m) c w) r h

/-- A buffer that no stretch and no region writes ends as launched. -/
theorem U7_kept (c : Dev nD) (r : Ref sig .tc) (h0 : r ∉ hostOps0_W) (h1 : r ∉ hostOps1_W) (h2 : r ∉ hostOps2_W) (h3 : r ∉ hostOps3_W)
    (k0 : ∀ w, Pipeline.arrRef spec0 w = r → (spec0 w).isOut = false) (k1 : ∀ w, Pipeline.arrRef spec1 w = r → (spec1 w).isOut = false)
    (k2 : ∀ w, Pipeline.arrRef spec2 w = r → (spec2 w).isOut = false) : U7 m c r = m ((c : Thread nD τ).loc r) :=
  (U7_of m c r h3).trans <| (U6_of m c r k2).trans <| (U5_of m c r h2).trans <| (U4_of m c r k1).trans <| (U3_of m c r h1).trans <|
    (U2_of m c r k0).trans <| (U1_of m c r h0).trans rfl

/-- Each region's proof data, at the contents it is entered with. -/
def pdats : (p : Fin 3) → (c : Dev nD) → Dat τ (Elt F) Unit ℕ (UR sig nD τ) ℕ (cfgs p) c
  | ⟨0, _⟩ => R0.dat (U1 m)
  | ⟨1, _⟩ => R1.dat (U3 m)
  | ⟨2, _⟩ => R2.dat (U5 m)

/-- One level for the TensorCores' counters. -/
abbrev L : GSem nD τ sig → Finset Unit := fun g => if g.1.2 = .tc then {()} else ∅
abbrev lv : GSem nD τ sig → Unit → ℕ := fun _ _ => 0

theorem cut (p : Fin 3) : LevelCut (pcfgs (F := F)) adm () L lv p (0 : Dev nD → CellTallies nD τ sig Unit) (fun _ => 0) where
  hι c w s := by simp [L]
  hιb c w s := le_rfl
  hD c g i h := absurd h (by simp)

/-- What rides beside the buffers between two items: the core owing nothing and the generator register. -/
abbrev E (c : Dev nD) : sProp 𝕄 := iprop((∃ Wd, owes (c : Thread nD τ) (0 : CellTallies nD τ sig Unit) Wd) ∗ (∃ r, prngReg c r) ∗ emp)

abbrev X (c : Dev nD) : sProp 𝕄 := iprop(∃ r, prngReg c r)

theorem Eend (c : Dev nD) : E (F := F) c ⊢ (iprop(∃ W, owes (c : Thread nD τ) (0 : CellTallies nD τ sig Unit) W) : sProp 𝕄) := by
  iintro ⟨H, -⟩; iexact H

/-- Region 0's record, -/
def reg0 : RegionSeg (pcfgs (F := F)) adm (pdats m) () defs₀ Variants.none L lv 0 :=
  RegionSeg.ofHeldIn _ _ _ _ _ _ _ _ 0 0 (ucRefs τ sig) X X launch0.toP rfl (fun c => (R0.body_obligation (U1 m) c).loose) (fun _ _ => rfl) (fun _ => rfl)
    (fun c => (R0.dat (U1 m) c).share_full fun _ => rfl) (fun c => .rfl) (fun c => .rfl) (fun _ => 0) (cut 0) (fun _ => iprop(emp)) (U1 m) (fun c w => R0.A_eq (U1 m) c w)

/-- region 1's -/
def reg1 : RegionSeg (pcfgs (F := F)) adm (pdats m) () defs₀ Variants.none L lv 1 :=
  RegionSeg.ofHeldIn _ _ _ _ _ _ _ _ 1 0 (ucRefs τ sig) X X launch1.toP rfl (fun c => (R1.body_obligation (U3 m) c).loose) (fun _ _ => rfl) (fun _ => rfl)
    (fun c => (R1.dat (U3 m) c).share_full fun _ => rfl) (fun c => R1.hin (U3 m) c) (fun c => R1.hout (U3 m) c) (fun _ => 0) (cut 1) (fun _ => iprop(emp)) (U3 m) (fun c w => R1.A_eq (U3 m) c w)

/-- and region 2's. -/
def reg2 : RegionSeg (pcfgs (F := F)) adm (pdats m) () defs₀ Variants.none L lv 2 :=
  RegionSeg.ofHeldIn _ _ _ _ _ _ _ _ 2 0 (ucRefs τ sig) X X launch2.toP rfl (fun c => (R2.body_obligation (U5 m) c).loose) (fun _ _ => rfl) (fun _ => rfl)
    (fun c => (R2.dat (U5 m) c).share_full fun _ => rfl) (fun c => .rfl) (fun c => .rfl) (fun _ => 0) (cut 2) (fun _ => iprop(emp)) (U5 m) (fun c w => R2.A_eq (U5 m) c w)

/-- The host stretches' records. -/
def hs0 : HostSeg (Ix := Unit) (Name := ℕ) (U := UR sig nD τ) (Lvl := ℕ) (pcfgs (F := F)) defs₀ Variants.none L lv :=
  HostSeg.ofOps _ _ _ _ _ (ucRefs τ sig) hostOps0 (fun op h => sub_ucRefs op ((List.forall_iff_forall_mem.mp hostOps0_sub) op h))
    (fun op h => (List.forall_iff_forall_mem.mp hostOps0_fresh) op h) (V0 m) E
def hs1 : HostSeg (Ix := Unit) (Name := ℕ) (U := UR sig nD τ) (Lvl := ℕ) (pcfgs (F := F)) defs₀ Variants.none L lv :=
  HostSeg.ofOps _ _ _ _ _ (ucRefs τ sig) hostOps1 (fun op h => sub_ucRefs op ((List.forall_iff_forall_mem.mp hostOps1_sub) op h))
    (fun op h => (List.forall_iff_forall_mem.mp hostOps1_fresh) op h) (U2 m) E
def hs2 : HostSeg (Ix := Unit) (Name := ℕ) (U := UR sig nD τ) (Lvl := ℕ) (pcfgs (F := F)) defs₀ Variants.none L lv :=
  HostSeg.ofOps _ _ _ _ _ (ucRefs τ sig) hostOps2 (fun op h => sub_ucRefs op ((List.forall_iff_forall_mem.mp hostOps2_sub) op h))
    (fun op h => (List.forall_iff_forall_mem.mp hostOps2_fresh) op h) (U4 m) E
def hs3 : HostSeg (Ix := Unit) (Name := ℕ) (U := UR sig nD τ) (Lvl := ℕ) (pcfgs (F := F)) defs₀ Variants.none L lv :=
  HostSeg.ofOps _ _ _ _ _ (ucRefs τ sig) hostOps3 (fun op h => sub_ucRefs op ((List.forall_iff_forall_mem.mp hostOps3_sub) op h))
    (fun op h => (List.forall_iff_forall_mem.mp hostOps3_fresh) op h) (U6 m) E

/-- @main's items in order. -/
abbrev items : List (Seg (pcfgs (F := F)) adm (pdats m) () defs₀ Variants.none L lv) :=
  [.host (hs0 m), .region (reg0 m), .host (hs1 m), .region (reg1 m), .host (hs2 m), .region (reg2 m), .host (hs3 m)]

theorem arrs0 : arrRefs (τ := τ) (pcfgs (F := F) 0).spec ⊆ ucRefs τ sig :=
  arrRefs_sub_ucRefs _ (show ∀ w, (arrRef spec0 w).isScoped = false by decide)
theorem arrs1 : arrRefs (τ := τ) (pcfgs (F := F) 1).spec ⊆ ucRefs τ sig :=
  arrRefs_sub_ucRefs _ (show ∀ w, (arrRef spec1 w).isScoped = false by decide)
theorem arrs2 : arrRefs (τ := τ) (pcfgs (F := F) 2).spec ⊆ ucRefs τ sig :=
  arrRefs_sub_ucRefs _ (show ∀ w, (arrRef spec2 w).isScoped = false by decide)

theorem pre0 (c : Dev nD) : iprop(StableHlo.held (c : Thread nD τ) (ucRefs τ sig) (U1 m c) ∗ E c) ⊢ (reg0 m).pre c := by
  unfold reg0; refine .trans ?_ (RegionSeg.ofHeldIn_pre arrs0 c); exact .rfl
theorem post0 (c : Dev nD) : (reg0 m).post c ⊢ iprop(StableHlo.held (c : Thread nD τ) (ucRefs τ sig) (U2 m c) ∗ E c) := by
  have h : U2 m c = afterRegion (pdats m 0 c) (U1 m c) := rfl
  rw [h]; unfold reg0; exact RegionSeg.ofHeldIn_post arrs0 c

theorem pre1 (c : Dev nD) : iprop(StableHlo.held (c : Thread nD τ) (ucRefs τ sig) (U3 m c) ∗ E c) ⊢ (reg1 m).pre c := by
  unfold reg1; refine .trans ?_ (RegionSeg.ofHeldIn_pre arrs1 c); exact .rfl
theorem post1 (c : Dev nD) : (reg1 m).post c ⊢ iprop(StableHlo.held (c : Thread nD τ) (ucRefs τ sig) (U4 m c) ∗ E c) := by
  have h : U4 m c = afterRegion (pdats m 1 c) (U3 m c) := rfl
  rw [h]; unfold reg1; exact RegionSeg.ofHeldIn_post arrs1 c

theorem pre2 (c : Dev nD) : iprop(StableHlo.held (c : Thread nD τ) (ucRefs τ sig) (U5 m c) ∗ E c) ⊢ (reg2 m).pre c := by
  unfold reg2; refine .trans ?_ (RegionSeg.ofHeldIn_pre arrs2 c); exact .rfl
theorem post2 (c : Dev nD) : (reg2 m).post c ⊢ iprop(StableHlo.held (c : Thread nD τ) (ucRefs τ sig) (U6 m c) ∗ E c) := by
  have h : U6 m c = afterRegion (pdats m 2 c) (U5 m c) := rfl
  rw [h]; unfold reg2; exact RegionSeg.ofHeldIn_post arrs2 c

set_option backward.isDefEq.respectTransparency.types false in
/-- Every weakly fair execution from memory `m` with zero counters terminates, with every unscoped buffer of a TensorCore at the last valuation and
    every counter at zero. -/
theorem run (ρ : Dev nD → PrngReg) :
    θ_run defs (onTc (τ := τ) (main (F := F))) ⟨m, fun _ => 0, ρ⟩ (fun r => (∀ (c : Dev nD) (b : Ref sig .tc), b.isScoped = false →
      r.2.mem ((c.tc : Thread nD τ).loc b) = U7 m c b) ∧ r.2.sem = fun _ => 0) := by
  refine Pipeline.θ_run_regions_kit_dev_sems (pcfgs (F := F)) adm (pdats m) () cellOf_inj emb₁ defs₀ Variants.none L lv m ρ main
    (fun _ => items m)
    (fun c Q => by
      rewrite [main_chain c, Seg.run_eq_chain,
        show (items m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [items, Seg.pipes_host, Seg.pipes_region, Seg.pipes_nil]; decide) 0 (fun g hg => if_neg hg)
    (fun _ => iprop(emp)) (initOf (cells (pin (pcfgs (F := F)) adm) cellOf_inj) (launchToks (pin (pcfgs (F := F)) adm) cellOf_inj)) ?_
    (T₀ := fun c => iprop(StableHlo.held (c : Thread nD τ) (ucRefs τ sig) (V0 m c) ∗ E c))
    (Tₙ := fun c => StableHlo.held (c : Thread nD τ) (ucRefs τ sig) (U7 m c))
    (hch := fun c => ⟨.rfl, pre0 m c, post0 m c, pre1 m c, post1 m c, pre2 m c, post2 m c, sep_mono .rfl (Eend c)⟩)
    (hinit := ?_) (QY := fun c s => ∀ b ∈ ucRefs τ sig, s.mem ((c.tc : Thread nD τ).1, b) = U7 m c b)
    (hfin := fun c s' => ?_)
    (hQ := fun _ h hz => ⟨fun c b hb => h c (Proc.devRef .tc b) (devRef_mem_ucRefs hb), funext fun g => hz g (.inr (regions_no_unscoped g.2))⟩)
  · iintro Hu; imodintro
    isplitl [Hu]
    · iapply (show (ownU _ : sProp 𝕄) ⊢ BI.own (emb₁ (initOf (cells (pin (pcfgs (F := F)) adm) cellOf_inj) (launchToks (pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  · refine initEach L lv fun c => ?_
    rw [show unscopedBufs c (fun b => m ((c.tc : Thread nD τ).loc b)) = StableHlo.held (c.tc : Thread nD τ) (ucRefs τ sig) (V0 m c)
        from unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (ucRefs τ sig) (fun b => ((c.tc : Thread nD τ).1, b)) (U7 m c) s') $$ [Hh HSI]
    · isplitl [Hh] <;> iassumption
    imodintro; iexact Hr

/-- The arguments end as launched and every counter ends at zero. -/
theorem frame_run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_mono (run m ρ) fun r h => ⟨fun c => ⟨
    (h.1 c main_arg0 (by decide)).trans (U7_kept m c main_arg0 (by decide) (by decide) (by decide) (by decide) (by decide) (by decide) (by decide)),
    (h.1 c main_arg1 (by decide)).trans (U7_kept m c main_arg1 (by decide) (by decide) (by decide) (by decide) (by decide) (by decide) (by decide)),
    (h.1 c main_arg2 (by decide)).trans (U7_kept m c main_arg2 (by decide) (by decide) (by decide) (by decide) (by decide) (by decide) (by decide)),
    (h.1 c main_arg3 (by decide)).trans (U7_kept m c main_arg3 (by decide) (by decide) (by decide) (by decide) (by decide) (by decide) (by decide)),
    (h.1 c main_arg4 (by decide)).trans (U7_kept m c main_arg4 (by decide) (by decide) (by decide) (by decide) (by decide) (by decide) (by decide)),
    (h.1 c main_arg5 (by decide)).trans (U7_kept m c main_arg5 (by decide) (by decide) (by decide) (by decide) (by decide) (by decide) (by decide)),
    (h.1 c main_arg6 (by decide)).trans (U7_kept m c main_arg6 (by decide) (by decide) (by decide) (by decide) (by decide) (by decide) (by decide)),
    (h.1 c main_arg7 (by decide)).trans (U7_kept m c main_arg7 (by decide) (by decide) (by decide) (by decide) (by decide) (by decide) (by decide)),
    (h.1 c main_arg8 (by decide)).trans (U7_kept m c main_arg8 (by decide) (by decide) (by decide) (by decide) (by decide) (by decide) (by decide)),
    (h.1 c main_arg9 (by decide)).trans (U7_kept m c main_arg9 (by decide) (by decide) (by decide) (by decide) (by decide) (by decide) (by decide)),
    (h.1 c main_arg10 (by decide)).trans (U7_kept m c main_arg10 (by decide) (by decide) (by decide) (by decide) (by decide) (by decide) (by decide)),
    (h.1 c main_arg11 (by decide)).trans (U7_kept m c main_arg11 (by decide) (by decide) (by decide) (by decide) (by decide) (by decide) (by decide)),
    (h.1 c main_arg12 (by decide)).trans (U7_kept m c main_arg12 (by decide) (by decide) (by decide) (by decide) (by decide) (by decide) (by decide)),
    (h.1 c main_arg13 (by decide)).trans (U7_kept m c main_arg13 (by decide) (by decide) (by decide) (by decide) (by decide) (by decide) (by decide)),
    (h.1 c main_arg14 (by decide)).trans (U7_kept m c main_arg14 (by decide) (by decide) (by decide) (by decide) (by decide) (by decide) (by decide)),
    (h.1 c main_arg15 (by decide)).trans (U7_kept m c main_arg15 (by decide) (by decide) (by decide) (by decide) (by decide) (by decide) (by decide)),
    (h.1 c main_arg16 (by decide)).trans (U7_kept m c main_arg16 (by decide) (by decide) (by decide) (by decide) (by decide) (by decide) (by decide)),
    (h.1 c main_arg17 (by decide)).trans (U7_kept m c main_arg17 (by decide) (by decide) (by decide) (by decide) (by decide) (by decide) (by decide))⟩, h.2⟩

end Cert.KernelIdeal.Run

end
-- ==== Proof.PreFacts.lean ====
/- The shape relations the input predicate states: each is decided by its literal extents. -/
module

public import proofs.«01_k».proof.Pre_inputs_in_range
public import Idealize.ShloMosaic.Lib.StableHlo

@[expose] public section

set_option maxRecDepth 16384

namespace Cert.Pre_inputs_in_range

/-- Every shape relation of the predicate's operations holds. -/
theorem facts : Facts where
  bcast_S_S16x2048 := by decide
  reducesTo_S16x2048_S_d0_1 := by decide
  h_S_ := by decide
  bcast_S_S251x1024 := by decide
  reducesTo_S251x1024_S_d0_1 := by decide
  bcast_S_S251 := by decide
  reducesTo_S251_S_d0 := by decide

end Cert.Pre_inputs_in_range

end
-- ==== Proof.Frames.lean ====
/- The claims about single programs: each runs to its end from any memory, leaves its arguments as they were and every semaphore at
   zero; and the one constant that is named differs from the program's word only as the rule says. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.RunK
public import proofs.«01_k».proof.Proof.RunI
public import proofs.«01_k».proof.Proof.PreFacts
public import Idealize.ShloMosaic.Lib.Quiescent

@[expose] public section

set_option maxRecDepth 16384

noncomputable section

namespace Cert.Frames

open Idealize.ShloMosaic Idealize.ShloMosaic.StableHlo Idealize.SL.Sem

/-- The kernel's run at the word level. -/
theorem kernel : quiescent_Kernel (hKernel := Cert.Kernel.Gen.facts) :=
  fun m g _ => Cert.Kernel.Run.frame_run m g

/-- The idealized kernel's run. -/
theorem kernelIdeal : quiescent_KernelIdeal (hKernelIdeal := Cert.KernelIdeal.Gen.facts) :=
  fun m g _ => Cert.KernelIdeal.Run.frame_run m g

/-- The same where the precondition is asked for. -/
theorem kernelIdeal_pre : quiescent_KernelIdeal_pre_inputs_in_range (hKernelIdeal := Cert.KernelIdeal.Gen.facts) (hPre_inputs_in_range := Cert.Pre_inputs_in_range.facts) :=
  fun m g _ => Cert.KernelIdeal.Run.frame_run m g

/-- The reference has no semaphore, and its run leaves the arguments alone. -/
theorem reference : quiescent_ReferenceIdeal (hReferenceIdeal := Cert.ReferenceIdeal.Gen.facts) :=
  fun m g _ => θ_run_mono (Cert.ReferenceIdeal.Value.run (F := Ideal) m g) fun r h =>
    ⟨fun c => (h c).2.2, sem_eq_zero_of_no_sems (by decide) r.2⟩

/-- The same where the precondition is asked for. -/
theorem reference_pre : quiescent_ReferenceIdeal_pre_inputs_in_range (hReferenceIdeal := Cert.ReferenceIdeal.Gen.facts) (hPre_inputs_in_range := Cert.Pre_inputs_in_range.facts) :=
  fun m g _ => θ_run_mono (Cert.ReferenceIdeal.Value.run (F := Ideal) m g) fun r h =>
    ⟨fun c => (h c).2.2, sem_eq_zero_of_no_sems (by decide) r.2⟩

/-- The named mask is minus infinity. -/
theorem mask : preserves_Kernel_KernelIdeal :=
  IdealRules.named_const.statement Cert.KernelIdeal.κ "mask" .f32 0xF149F2CA#32 ⊥ rfl

end Cert.Frames

end
-- ==== Proof.Math.lean ====
/- The mathematics of the problem, in extended reals: the one-hot row of the three word tables, an input product, the recurrence. -/
module

public import Idealize.ShloMosaic.Lib.Pointwise
public import Idealize.ShloMosaic.Lib.IdealHost

@[expose] public section

set_option maxRecDepth 16384

noncomputable section

namespace Cert.Math

open Idealize.ShloMosaic Idealize.ShloMosaic.Pointwise

/-- Entry `k` of the combined one-hot row of a word, a dependency and a position id, as the compares and the conversion make it. -/
def hot (w d p : BitVec 32) (k : Fin 512) : EReal :=
  FloatOps.sitofp (F := Ideal) FTy.f32
    (BitVec.setWidth 32
      (IntOp.ori
        (IntOp.ori (IntOp.cmpi CmpIPredicate.eq w (BitVec.ofNat 32 ↑k))
          (IntOp.cmpi CmpIPredicate.eq d (IntOp.subi (BitVec.ofNat 32 ↑k) 256#32)))
        (IntOp.cmpi CmpIPredicate.eq p (IntOp.subi (BitVec.ofNat 32 ↑k) 384#32))))

/-- The one-hot row times a table of 512 rows, at column `q`. -/
def pick (w d p : BitVec 32) (e : Fin 512 → Fin 384 → EReal) (q : Fin 384) : EReal := ∑ k, hot w d p k * e k q

/-- A row of 384 times a matrix column, taken as three sums of 128 terms, plus the bias. -/
def proj3 (x : Fin 384 → EReal) (w : Fin 384 → EReal) (b : EReal) : EReal :=
  ∑ q : Fin 128, x ⟨q, by omega⟩ * w ⟨q, by omega⟩ + ∑ q : Fin 128, x ⟨128 + q, by omega⟩ * w ⟨128 + q, by omega⟩
    + ∑ q : Fin 128, x ⟨256 + q, by omega⟩ * w ⟨256 + q, by omega⟩ + b

/-- The three sums are the one sum over 384 columns. -/
theorem proj3_eq (x w : Fin 384 → EReal) (b : EReal) : proj3 x w b = (∑ q, x q * w q) + b := by
  have h : ∀ f : Fin 384 → EReal, ∑ q, f q = ∑ q : Fin 128, f ⟨q, by omega⟩ + ∑ q : Fin 128, f ⟨128 + q, by omega⟩
      + ∑ q : Fin 128, f ⟨256 + q, by omega⟩ := fun f => by
    rw [show (∑ q, f q) = ∑ q : Fin (256 + 128), f q from rfl, Fin.sum_univ_add,
      show (∑ q : Fin 256, f (Fin.castAdd 128 q)) = ∑ q : Fin (128 + 128), f (Fin.castAdd 128 q) from rfl, Fin.sum_univ_add]
    rfl
  rw [h]; rfl

theorem hot_eq (w d p : BitVec 32) (k : Fin 512) : hot w d p k =
    if w.toNat = k.val ∨ (d.toNat + 256) % 2 ^ 32 = k.val ∨ (p.toNat + 384) % 2 ^ 32 = k.val then 1 else 0 := by
  have hk := k.isLt
  have h1 : (w == BitVec.ofNat 32 ↑k) = decide (w.toNat = k.val) := by
    rw [Bool.eq_iff_iff]; simp [← BitVec.toNat_inj]; omega
  have h2 : (d == BitVec.ofNat 32 ↑k - 256#32) = decide ((d.toNat + 256) % 2 ^ 32 = k.val) := by
    rw [Bool.eq_iff_iff]; simp [← BitVec.toNat_inj, BitVec.toNat_sub]; have := d.isLt; omega
  have h3 : (p == BitVec.ofNat 32 ↑k - 384#32) = decide ((p.toNat + 384) % 2 ^ 32 = k.val) := by
    rw [Bool.eq_iff_iff]; simp [← BitVec.toNat_inj, BitVec.toNat_sub]; have := p.isLt; omega
  have key : ∀ x y z : Bool, FloatOps.sitofp (F := Ideal) FTy.f32 (BitVec.setWidth 32 (BitVec.ofBool x ||| BitVec.ofBool y ||| BitVec.ofBool z))
      = if x = true ∨ y = true ∨ z = true then (1 : EReal) else 0 := by
    have c0 : FloatOps.sitofp (F := Ideal) FTy.f32 (0#32) = (0 : EReal) := by
      show (((0#32 : BitVec 32).toInt : ℝ) : EReal) = 0
      simp
    have c1 : FloatOps.sitofp (F := Ideal) FTy.f32 (1#32) = (1 : EReal) := by
      show (((1#32 : BitVec 32).toInt : ℝ) : EReal) = 1
      simp
    intro x y z
    cases x <;> cases y <;> cases z <;> first | exact c0.trans (by simp) | exact c1.trans (by simp)
  unfold hot
  simp only [IntOp.cmpi, IntOp.ori, IntOp.subi, h1, h2, h3]
  rw [key]
  simp only [decide_eq_true_eq]

/-- For ids in range the one-hot row picks three rows of the table. -/
theorem pick_eq (w d p : BitVec 32) (hw : w.toNat ≤ 250) (hd : d.toNat ≤ 50) (hp : p.toNat ≤ 50) (e : Fin 512 → Fin 384 → EReal) (q : Fin 384) :
    pick w d p e q = e ⟨w.toNat, by omega⟩ q + (e ⟨256 + d.toNat, by omega⟩ q + e ⟨384 + p.toNat, by omega⟩ q) := by
  have h : ∀ k, hot w d p k * e k q = (if k = ⟨w.toNat, by omega⟩ then e k q else 0)
      + ((if k = ⟨256 + d.toNat, by omega⟩ then e k q else 0) + (if k = ⟨384 + p.toNat, by omega⟩ then e k q else 0)) := fun k => by
    have hk := k.isLt
    have e1 : (k = ⟨w.toNat, by omega⟩) ↔ w.toNat = k.val := by rw [Fin.ext_iff]; exact eq_comm
    have e2 : (k = ⟨256 + d.toNat, by omega⟩) ↔ (d.toNat + 256) % 2 ^ 32 = k.val := by
      rw [Fin.ext_iff]; constructor <;> intro h <;> simp only at h ⊢ <;> omega
    have e3 : (k = ⟨384 + p.toNat, by omega⟩) ↔ (p.toNat + 384) % 2 ^ 32 = k.val := by
      rw [Fin.ext_iff]; constructor <;> intro h <;> simp only at h ⊢ <;> omega
    rw [hot_eq, if_congr e1 rfl rfl, if_congr e2 rfl rfl, if_congr e3 rfl rfl]
    by_cases a1 : w.toNat = k.val
    · rw [if_pos (.inl a1), if_pos a1, if_neg (by omega), if_neg (by omega), one_mul, add_zero, add_zero]
    · by_cases a2 : (d.toNat + 256) % 2 ^ 32 = k.val
      · rw [if_pos (.inr (.inl a2)), if_neg a1, if_pos a2, if_neg (by omega), one_mul, add_zero, zero_add]
      · by_cases a3 : (p.toNat + 384) % 2 ^ 32 = k.val
        · rw [if_pos (.inr (.inr a3)), if_neg a1, if_neg a2, if_pos a3, one_mul, zero_add, zero_add]
        · rw [if_neg (by simp only [not_or]; exact ⟨a1, a2, a3⟩), if_neg a1, if_neg a2, if_neg a3, zero_mul, add_zero, add_zero]
  unfold pick
  rw [Finset.sum_congr rfl fun k _ => h k, Finset.sum_add_distrib, Finset.sum_add_distrib]
  simp

/-- A logit: two sums over 512 units and the bias. -/
def logit (f g w1 w2 : Fin 512 → EReal) (b : EReal) : EReal := ∑ x, f x * w1 x + ∑ x, g x * w2 x + b

/-- The largest of finitely many values, minus infinity for none. -/
def top {N : ℕ} (l : Fin N → EReal) : EReal := Finset.fold max ⊥ l Finset.univ

/-- A probability, with the sum's reciprocal as a factor. -/
def soft {N : ℕ} (l : Fin N → EReal) (n : Fin N) : EReal := Ideal.exp (l n - top l) * Ideal.div 1 (∑ x, Ideal.exp (l x - top l))

/-- One step of a direction: the input product, the product with the state, the second bias, the hyperbolic tangent. -/
def cell (x : Fin 16 → Fin 512 → EReal) (w : Fin 512 → Fin 512 → EReal) (b : Fin 512 → EReal) (h : Fin 16 → Fin 512 → EReal) (a : Fin 16) (n : Fin 512) : EReal :=
  Ideal.tanh (x a n + ∑ k, h a k * w k n + b n)

/-- The states after each number of steps. -/
def states (x : ℕ → Fin 16 → Fin 512 → EReal) (w : Fin 512 → Fin 512 → EReal) (b : Fin 512 → EReal) (h0 : Fin 16 → Fin 512 → EReal) : ℕ → Fin 16 → Fin 512 → EReal
  | 0 => h0
  | s + 1 => cell (x s) w b (states x w b h0 s)

/-- The same where the first three steps each begin at the first state. -/
def lateStates (x : ℕ → Fin 16 → Fin 512 → EReal) (w : Fin 512 → Fin 512 → EReal) (b : Fin 512 → EReal) (h0 : Fin 16 → Fin 512 → EReal) : ℕ → Fin 16 → Fin 512 → EReal
  | 0 => h0
  | s + 1 => cell (x s) w b (if s ≤ 2 then h0 else lateStates x w b h0 s)

/-- From the third step on the late states are those of the inputs two steps on. -/
theorem lateStates_eq (x : ℕ → Fin 16 → Fin 512 → EReal) (w : Fin 512 → Fin 512 → EReal) (b : Fin 512 → EReal) (h0 : Fin 16 → Fin 512 → EReal) (s : ℕ) :
    lateStates x w b h0 (s + 3) = states (fun s => x (s + 2)) w b h0 (s + 1) := by
  induction s with
  | zero => simp [lateStates, states]
  | succ s ih =>
    rw [lateStates, if_neg (by omega), ih]
    rfl

theorem states_congr {x x' : ℕ → Fin 16 → Fin 512 → EReal} {w w' : Fin 512 → Fin 512 → EReal} {b b' : Fin 512 → EReal} {h0 h0' : Fin 16 → Fin 512 → EReal}
    (n : ℕ) (hx : ∀ s < n, x s = x' s) (hw : w = w') (hb : b = b') (hh : h0 = h0') : states x w b h0 n = states x' w' b' h0' n := by
  subst hw hb hh
  induction n with
  | zero => rfl
  | succ n ih => rw [states, states, hx n (Nat.lt_succ_self n), ih fun s h => hx s (Nat.lt_succ_of_lt h)]

end Cert.Math

end
-- ==== Proof.KerIn.lean ====
/- What the host stretches of the kernel hand to its three regions, read element by element. -/
module

public import proofs.«01_k».proof.Proof.RunI
public import proofs.«01_k».proof.Proof.Math
public import Idealize.ShloMosaic.Lib.Routing.OpsSet
public import Idealize.ShloMosaic.Lib.Routing.OpsPair
public import Idealize.ShloMosaic.Lib.Routing.OpsOne
public import Idealize.ShloMosaic.Lib.Pointwise

@[expose] public section

set_option maxRecDepth 16384

noncomputable section

namespace Cert.KernelIdeal.HostIn

open Cert.KernelIdeal Cert.KernelIdeal.Gen Cert.Math
open Idealize.ShloMosaic Idealize.ShloMosaic.Pointwise Idealize.ShloMosaic.TcCoe Idealize.ShloMosaic.StableHlo

/-! ## Blocks written into larger arrays -/

/-- A block written at the corner `(r0, c0)`, read at `(r, c)`. -/
theorem block_read {α : Type} {R C A B w : Nat} {si : Shape} (d : ScatterDims (Routing.shape2 R C) si (Routing.shape2 A B)) (x0 : (Routing.shape2 R C).Idx → α) (idx : IVec si w)
    (upd : (Routing.shape2 A B).Idx → α) (r0 c0 : Nat) (hs0 : ∀ k, d.start k idx 0 = (r0 : Int)) (hs1 : ∀ k, d.start k idx 1 = (c0 : Int))
    (hw0 : ∀ k, d.window k 0 = (k 0).val) (hw1 : ∀ k, d.window k 1 = (k 1).val) (r : Fin R) (c : Fin C) :
    Host.scatter d (fun _ b => b) x0 idx upd (ix2 r c)
      = if h : (r0 ≤ r.val ∧ r.val - r0 < A) ∧ (c0 ≤ c.val ∧ c.val - c0 < B) then upd (ix2 ⟨r.val - r0, h.1.2⟩ ⟨c.val - c0, h.2.2⟩) else x0 (ix2 r c) := by
  have hl : ∀ (p : Fin A) (q : Fin B), d.resultIdx? (ix2 p q) idx = some (ix2 r c) ↔ r0 + p.val = r.val ∧ c0 + q.val = c.val := by
    intro p q
    refine (Routing.resultIdx?_ix2 d (ix2 p q) idx r c).trans ?_
    rw [hs0, hs1, hw0, hw1]
    show (r0 : Int) + (p.val : Int) = _ ∧ (c0 : Int) + (q.val : Int) = _ ↔ _
    omega
  by_cases h : (r0 ≤ r.val ∧ r.val - r0 < A) ∧ (c0 ≤ c.val ∧ c.val - c0 < B)
  · rw [dif_pos h]
    refine Routing.scatter_set_hit d x0 idx upd _ _ (fun k hk => ?_) (ix2 ⟨r.val - r0, h.1.2⟩ ⟨c.val - c0, h.2.2⟩) ((hl _ _).2 ⟨by dsimp only; omega, by dsimp only; omega⟩)
    rw [eq_ix2 k] at hk ⊢
    obtain ⟨e0, e1⟩ := (hl _ _).1 hk
    exact congrArg upd (congrArg₂ ix2 (Fin.ext (by dsimp only; omega)) (Fin.ext (by dsimp only; omega)))
  · rw [dif_neg h]
    refine Routing.scatter_set_miss d x0 idx upd _ fun k hk => ?_
    rw [eq_ix2 k] at hk
    obtain ⟨e0, e1⟩ := (hl _ _).1 hk
    have a0 : (k 0).val < A := (k 0).isLt
    have a1 : (k 1).val < B := (k 1).isLt
    omega

/-- Two numbers as an index pair. -/
def two (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

theorem two_0 (a b : BitVec 32) : two a b (ix1 0) = a := by
  pointwise [two]
theorem two_1 (a b : BitVec 32) : two a b (ix1 1) = b := by
  pointwise [two]

/-- The three tables in the blocks of one. -/
def tab (A : FVec Ideal S251x128 .f32) (B C : FVec Ideal S51x128 .f32) : FVec Ideal S512x384 .bf16 :=
  Host.scatter scatter_S512x384_S2_S51x128_01_n_01_0 (fun _ b => b)
    (Host.scatter scatter_S512x384_S2_S51x128_01_n_01_0 (fun _ b => b)
      (Host.scatter scatter_S512x384_S2_S251x128_01_n_01_0 (fun _ b => b) (broadcastInDim S512x384 ![] bcast_S_S512x384 (constant (F := Ideal) S_ .bf16 0x0000#16)) (two 0#32 0#32)
        (truncf .bf16 A bitsLt_bf16_f32))
      (two 256#32 128#32) (truncf .bf16 B bitsLt_bf16_f32))
    (two 384#32 256#32) (truncf .bf16 C bitsLt_bf16_f32)

theorem writeT (x : FVec Ideal S512x384 .bf16) (a b : BitVec 32) (u : FVec Ideal S51x128 .bf16) (r0 c0 : Nat) (ha : a.toInt = (r0 : Int)) (hb : b.toInt = (c0 : Int)) (r : Fin 512) (c : Fin 384) :
    Host.scatter scatter_S512x384_S2_S51x128_01_n_01_0 (fun _ b => b) x (two a b) u (ix2 r c)
      = if h : (r0 ≤ r.val ∧ r.val - r0 < 51) ∧ (c0 ≤ c.val ∧ c.val - c0 < 128) then u (ix2 ⟨r.val - r0, h.1.2⟩ ⟨c.val - c0, h.2.2⟩) else x (ix2 r c) :=
  block_read (R := 512) (C := 384) (A := 51) (B := 128) _ _ _ _ r0 c0
    (fun k => (Routing.start_pair (R := 512) (C := 384) _ rfl rfl (two a b) k 0).trans ((congrArg BitVec.toInt (two_0 a b)).trans ha))
    (fun k => (Routing.start_pair (R := 512) (C := 384) _ rfl rfl (two a b) k 1).trans ((congrArg BitVec.toInt (two_1 a b)).trans hb)) (fun k => rfl) (fun k => rfl) r c

theorem writeW (x : FVec Ideal S512x384 .bf16) (a b : BitVec 32) (u : FVec Ideal S251x128 .bf16) (r0 c0 : Nat) (ha : a.toInt = (r0 : Int)) (hb : b.toInt = (c0 : Int)) (r : Fin 512) (c : Fin 384) :
    Host.scatter scatter_S512x384_S2_S251x128_01_n_01_0 (fun _ b => b) x (two a b) u (ix2 r c)
      = if h : (r0 ≤ r.val ∧ r.val - r0 < 251) ∧ (c0 ≤ c.val ∧ c.val - c0 < 128) then u (ix2 ⟨r.val - r0, h.1.2⟩ ⟨c.val - c0, h.2.2⟩) else x (ix2 r c) :=
  block_read (R := 512) (C := 384) (A := 251) (B := 128) _ _ _ _ r0 c0
    (fun k => (Routing.start_pair (R := 512) (C := 384) _ rfl rfl (two a b) k 0).trans ((congrArg BitVec.toInt (two_0 a b)).trans ha))
    (fun k => (Routing.start_pair (R := 512) (C := 384) _ rfl rfl (two a b) k 1).trans ((congrArg BitVec.toInt (two_1 a b)).trans hb)) (fun k => rfl) (fun k => rfl) r c

theorem tab_apply (A : FVec Ideal S251x128 .f32) (B C : FVec Ideal S51x128 .f32) (r : Fin 512) (c : Fin 384) :
    tab A B C (ix2 r c)
      = if h : (384 ≤ r.val ∧ r.val - 384 < 51) ∧ (256 ≤ c.val ∧ c.val - 256 < 128) then C (ix2 ⟨r.val - 384, h.1.2⟩ ⟨c.val - 256, h.2.2⟩)
        else if h : (256 ≤ r.val ∧ r.val - 256 < 51) ∧ (128 ≤ c.val ∧ c.val - 128 < 128) then B (ix2 ⟨r.val - 256, h.1.2⟩ ⟨c.val - 128, h.2.2⟩)
        else if h : (0 ≤ r.val ∧ r.val - 0 < 251) ∧ (0 ≤ c.val ∧ c.val - 0 < 128) then A (ix2 ⟨r.val - 0, h.1.2⟩ ⟨c.val - 0, h.2.2⟩) else 0 := by
  have z : (broadcastInDim S512x384 ![] bcast_S_S512x384 (constant (F := Ideal) S_ .bf16 0x0000#16)) (ix2 r c) = (0 : EReal) := by
    pointwise []
  unfold tab
  rw [writeT _ _ _ _ 384 256 (by decide) (by decide), writeT _ _ _ _ 256 128 (by decide) (by decide), writeW _ _ _ _ 0 0 (by decide) (by decide), z]
  rfl

/-! ## The other arrays -/

/-- The ids, time first. -/
def idsF (x : IVec S16x2048 32) : IVec S2048x16 32 := transpose S2048x16 [1, 0] x transposes_S16x2048_S2048x16_1_0

/-- The ids, time first, two steps on. -/
def idsB (x : IVec S16x2048 32) : IVec S2048x16 32 :=
  concatenate S2048x16 0 [⟨S2046x16, extractStridedSlice S2046x16 ![2, 0] (idsF x) slices_S2048x16_S2046x16_2_0⟩, ⟨S2x16, extractStridedSlice S2x16 ![0, 0] (idsF x) slices_S2048x16_S2x16_0_0⟩]
    concatenates_S2046x16_S2x16_S2048x16_d0

theorem idsF_apply (x : IVec S16x2048 32) (s : Fin 2048) (a : Fin 16) : idsF x (ix2 s a) = x (ix2 a s) := by
  pointwise [idsF]

theorem idsB_apply (x : IVec S16x2048 32) (s : Fin 2048) (a : Fin 16) (h : s.val < 2046) : idsB x (ix2 s a) = x (ix2 a ⟨s.val + 2, by omega⟩) := by
  pointwise [idsB, idsF]
  rw [dif_pos h]
  exact congrArg x (congrArg (fun t => ix2 a t) (Fin.ext (Nat.add_comm _ _)))

/-- An input weight matrix, transposed. -/
def wih (x : FVec Ideal S512x384 .f32) : FVec Ideal S384x512 .bf16 := truncf .bf16 (transpose S384x512 [1, 0] x transposes_S512x384_S384x512_1_0) bitsLt_bf16_f32
theorem wih_apply (x : FVec Ideal S512x384 .f32) (q : Fin 384) (n : Fin 512) : wih x (ix2 q n) = x (ix2 n q) := by
  pointwise [wih]

/-- A recurrent weight matrix, transposed. -/
def whh (x : FVec Ideal S512x512 .f32) : FVec Ideal S512x512 .bf16 := truncf .bf16 (transpose S512x512 [1, 0] x transposes_S512x512_S512x512_1_0) bitsLt_bf16_f32
theorem whh_apply (x : FVec Ideal S512x512 .f32) (k n : Fin 512) : whh x (ix2 k n) = x (ix2 n k) := by
  pointwise [whh]

/-- A bias as one row. -/
def row1 (x : FVec Ideal S512 .f32) : FVec Ideal S1x512 .f32 := shapeCast S1x512 x shapeCasts_S512_S1x512
theorem row1_apply (x : FVec Ideal S512 .f32) (z : Fin 1) (n : Fin 512) : row1 x (ix2 z n) = x (ix1 n) := by
  pointwise [row1]

/-- The initial states of the two directions. -/
def half0 (h : FVec Ideal S2x16x512 .bf16) : FVec Ideal S16x512 .bf16 :=
  shapeCast S16x512 (extractStridedSlice S1x16x512 ![0, 0, 0] h slices_S2x16x512_S1x16x512_0_0_0) shapeCasts_S1x16x512_S16x512
def half1 (h : FVec Ideal S2x16x512 .bf16) : FVec Ideal S16x512 .bf16 :=
  shapeCast S16x512 (extractStridedSlice S1x16x512 ![1, 0, 0] h slices_S2x16x512_S1x16x512_1_0_0) shapeCasts_S1x16x512_S16x512
theorem half0_apply (h : FVec Ideal S2x16x512 .bf16) (a : Fin 16) (n : Fin 512) : half0 h (ix2 a n) = h (ix3 0 a n) := by
  pointwise [half0]
theorem half1_apply (h : FVec Ideal S2x16x512 .bf16) (a : Fin 16) (n : Fin 512) : half1 h (ix2 a n) = h (ix3 1 a n) := by
  pointwise [half1]

/-- The output projection's two halves, transposed and padded to 256 columns. -/
def pad0 (w : FVec Ideal S251x1024 .f32) : FVec Ideal S512x256 .f32 :=
  Host.scatter scatter_S512x256_S1_S512x251_01_n_1_0 (fun _ b => b) (broadcastInDim S512x256 ![] bcast_S_S512x256 (constant (F := Ideal) S_ .f32 0x00000000#32))
    (broadcastInDim S1 ![] bcast_S_S1 (constantI S_ 32 0#32)) (transpose S512x251 [1, 0] (extractStridedSlice S251x512 ![0, 0] w slices_S251x1024_S251x512_0_0) transposes_S251x512_S512x251_1_0)
def pad1 (w : FVec Ideal S251x1024 .f32) : FVec Ideal S512x256 .f32 :=
  Host.scatter scatter_S512x256_S1_S512x251_01_n_1_0 (fun _ b => b) (broadcastInDim S512x256 ![] bcast_S_S512x256 (constant (F := Ideal) S_ .f32 0x00000000#32))
    (broadcastInDim S1 ![] bcast_S_S1 (constantI S_ 32 0#32)) (transpose S512x251 [1, 0] (extractStridedSlice S251x512 ![0, 512] w slices_S251x1024_S251x512_0_512) transposes_S251x512_S512x251_1_0)

theorem pad_read (x : FVec Ideal S512x256 .f32) (u : FVec Ideal S512x251 .f32) (r : Fin 512) (c : Fin 256) :
    Host.scatter scatter_S512x256_S1_S512x251_01_n_1_0 (fun _ b => b) x (broadcastInDim S1 ![] bcast_S_S1 (constantI S_ 32 0#32)) u (ix2 r c)
      = if h : (0 ≤ r.val ∧ r.val - 0 < 512) ∧ (0 ≤ c.val ∧ c.val - 0 < 251) then u (ix2 ⟨r.val - 0, h.1.2⟩ ⟨c.val - 0, h.2.2⟩) else x (ix2 r c) :=
  block_read (R := 512) (C := 256) (A := 512) (B := 251) _ _ _ _ 0 0 (fun k => rfl) (fun k => rfl) (fun k => rfl) (fun k => rfl) r c

theorem pad0_apply (w : FVec Ideal S251x1024 .f32) (r : Fin 512) (c : Fin 256) :
    pad0 w (ix2 r c) = if h : c.val < 251 then w (ix2 ⟨c.val, h⟩ (Fin.castAdd 512 r)) else 0 := by
  unfold pad0
  rw [pad_read]
  by_cases h : c.val < 251
  · rw [dif_pos h, dif_pos ⟨⟨Nat.zero_le _, r.isLt⟩, Nat.zero_le _, h⟩]
    pointwise []
    rfl
  · rw [dif_neg h, dif_neg fun e => h e.2.2]
    pointwise []

theorem pad1_apply (w : FVec Ideal S251x1024 .f32) (r : Fin 512) (c : Fin 256) :
    pad1 w (ix2 r c) = if h : c.val < 251 then w (ix2 ⟨c.val, h⟩ (Fin.natAdd 512 r)) else 0 := by
  unfold pad1
  rw [pad_read]
  by_cases h : c.val < 251
  · rw [dif_pos h, dif_pos ⟨⟨Nat.zero_le _, r.isLt⟩, Nat.zero_le _, h⟩]
    pointwise []
    rfl
  · rw [dif_neg h, dif_neg fun e => h e.2.2]
    pointwise []

/-- The output bias in a row of 256. -/
def padB (fill : FVec Ideal S1x256 .f32) (b : FVec Ideal S251 .f32) : FVec Ideal S1x256 .f32 :=
  Host.scatter scatter_S1x256_S2_S251_0_0_01_0 (fun _ b => b) fill (two 0#32 0#32) b

theorem padB_apply (fill : FVec Ideal S1x256 .f32) (b : FVec Ideal S251 .f32) (c : Fin 256) (h : c.val < 251) : padB fill b (ix2 0 c) = b (ix1 ⟨c.val, h⟩) := by
  have hl : ∀ q : Fin 251, scatter_S1x256_S2_S251_0_0_01_0.resultIdx? (ix1 q) (two 0#32 0#32) = some (ix2 0 c) ↔ q.val = c.val := by
    intro q
    refine (Routing.resultIdx?_ix2 (R := 1) (C := 256) _ _ _ 0 c).trans ?_
    rw [show scatter_S1x256_S2_S251_0_0_01_0.start (ix1 q) (two 0#32 0#32) 0 = 0 from (Routing.start_pair (R := 1) (C := 256) _ rfl rfl (two 0#32 0#32) _ 0).trans ((congrArg BitVec.toInt (two_0 _ _)).trans rfl),
      show scatter_S1x256_S2_S251_0_0_01_0.start (ix1 q) (two 0#32 0#32) 1 = 0 from (Routing.start_pair (R := 1) (C := 256) _ rfl rfl (two 0#32 0#32) _ 1).trans ((congrArg BitVec.toInt (two_1 _ _)).trans rfl)]
    show (0 : Int) + ((0 : Nat) : Int) = ((0 : Nat) : Int) ∧ (0 : Int) + (q.val : Int) = (c.val : Int) ↔ _
    omega
  refine Routing.scatter_set_hit _ fill _ b _ _ (fun k hk => ?_) (ix1 ⟨c.val, h⟩) ((hl _).2 rfl)
  rw [eq_ix1 k] at hk ⊢
  exact congrArg b (congrArg ix1 (Fin.ext ((hl _).1 hk)))

/-- The part of a result array that is kept, batch first. -/
def cut (x : FVec Ideal S2048x16x256 .f32) : FVec Ideal S16x2046x251 .f32 :=
  transpose S16x2046x251 [1, 0, 2] (extractStridedSlice S2046x16x251 ![0, 0, 0] x slices_S2048x16x256_S2046x16x251_0_0_0) transposes_S2046x16x251_S16x2046x251_1_0_2

theorem cut_apply (x : FVec Ideal S2048x16x256 .f32) (a : Fin 16) (l : Fin 2046) (n : Fin 251) :
    cut x (ix3 a l n) = x (ix3 ⟨l.val, by omega⟩ a ⟨n.val, by omega⟩) := by
  pointwise [cut]

/-! ## The stretches -/

set_option maxRecDepth 100000 in
theorem s0_v0 (V : Valuation τ sig (Elt Ideal)) : after hostOps0 V main_v0 = idsF (V main_arg0) := by
  after_results
  rfl

set_option maxRecDepth 100000 in
theorem s0_v1 (V : Valuation τ sig (Elt Ideal)) : after hostOps0 V main_v1 = idsF (V main_arg1) := by
  after_results
  rfl

set_option maxRecDepth 100000 in
theorem s0_v2 (V : Valuation τ sig (Elt Ideal)) : after hostOps0 V main_v2 = idsF (V main_arg2) := by
  after_results
  rfl

set_option maxRecDepth 100000 in
theorem s0_v5 (V : Valuation τ sig (Elt Ideal)) : after hostOps0 V main_v5 = idsB (V main_arg0) := by
  after_results
  rfl

set_option maxRecDepth 100000 in
theorem s0_v8 (V : Valuation τ sig (Elt Ideal)) : after hostOps0 V main_v8 = idsB (V main_arg1) := by
  after_results
  rfl

set_option maxRecDepth 100000 in
theorem s0_v11 (V : Valuation τ sig (Elt Ideal)) : after hostOps0 V main_v11 = idsB (V main_arg2) := by
  after_results
  rfl

set_option maxRecDepth 100000 in
theorem s0_v27 (V : Valuation τ sig (Elt Ideal)) : after hostOps0 V main_v27 = tab (V main_arg5) (V main_arg6) (V main_arg7) := by
  after_results
  rfl

set_option maxRecDepth 100000 in
theorem s0_v29 (V : Valuation τ sig (Elt Ideal)) : after hostOps0 V main_v29 = wih (V main_arg8) := by
  after_results
  rfl

set_option maxRecDepth 100000 in
theorem s0_v31 (V : Valuation τ sig (Elt Ideal)) : after hostOps0 V main_v31 = wih (V main_arg12) := by
  after_results
  rfl

set_option maxRecDepth 100000 in
theorem s0_v33 (V : Valuation τ sig (Elt Ideal)) : after hostOps0 V main_v33 = whh (V main_arg9) := by
  after_results
  rfl

set_option maxRecDepth 100000 in
theorem s0_v35 (V : Valuation τ sig (Elt Ideal)) : after hostOps0 V main_v35 = whh (V main_arg13) := by
  after_results
  rfl

set_option maxRecDepth 100000 in
theorem s0_v36 (V : Valuation τ sig (Elt Ideal)) : after hostOps0 V main_v36 = row1 (V main_arg10) := by
  after_results
  rfl

set_option maxRecDepth 100000 in
theorem s0_v37 (V : Valuation τ sig (Elt Ideal)) : after hostOps0 V main_v37 = row1 (V main_arg14) := by
  after_results
  rfl

set_option maxRecDepth 100000 in
theorem s0_v38 (V : Valuation τ sig (Elt Ideal)) : after hostOps0 V main_v38 = row1 (V main_arg11) := by
  after_results
  rfl

set_option maxRecDepth 100000 in
theorem s0_v39 (V : Valuation τ sig (Elt Ideal)) : after hostOps0 V main_v39 = row1 (V main_arg15) := by
  after_results
  rfl

set_option maxRecDepth 100000 in
theorem s0_v40 (V : Valuation τ sig (Elt Ideal)) : after hostOps0 V main_v40 = (truncf .bf16 (V main_arg4 : FVec Ideal S2x16x512 .f32) bitsLt_bf16_f32 : FVec Ideal S2x16x512 .bf16) := by
  after_results

set_option maxRecDepth 100000 in
theorem s1_v43 (V : Valuation τ sig (Elt Ideal)) : after hostOps1 V main_v43 = half0 (V main_v40) := by
  after_results
  rfl

set_option maxRecDepth 100000 in
theorem s1_v45 (V : Valuation τ sig (Elt Ideal)) : after hostOps1 V main_v45 = half1 (V main_v40) := by
  after_results
  rfl

set_option maxRecDepth 100000 in
theorem s2_v51 (V : Valuation τ sig (Elt Ideal)) : after hostOps2 V main_v51 = pad0 (V main_arg16) := by
  after_results
  rfl

set_option maxRecDepth 100000 in
theorem s2_v56 (V : Valuation τ sig (Elt Ideal)) : after hostOps2 V main_v56 = pad1 (V main_arg16) := by
  after_results
  rfl

set_option maxRecDepth 100000 in
theorem s2_v61 (V : Valuation τ sig (Elt Ideal)) : after hostOps2 V main_v61 = padB (after hostOps2 V main_v57) (V main_arg17) := by
  after_results
  rfl

set_option maxRecDepth 100000 in
theorem s3_v64 (V : Valuation τ sig (Elt Ideal)) : after hostOps3 V main_v64 = cut (V main_v62_0) := by
  after_results
  rfl

set_option maxRecDepth 100000 in
theorem s3_v66 (V : Valuation τ sig (Elt Ideal)) : after hostOps3 V main_v66 = cut (V main_v62_1) := by
  after_results
  rfl

end Cert.KernelIdeal.HostIn

end
-- ==== Proof.Soft.lean ====
/- The probabilities of 251 finite values, and why padding the values with minus infinity does not change them. -/
module

public import proofs.«01_k».proof.Proof.Math

@[expose] public section

set_option maxRecDepth 16384

noncomputable section

namespace Cert.Math

open Idealize.ShloMosaic

/-- A value that is a real number. -/
def Real' (x : EReal) : Prop := ∃ r : ℝ, x = (r : EReal)

theorem real_of_ne {x : EReal} (h : x ≠ ⊥ ∧ x ≠ ⊤) : Real' x := ⟨x.toReal, (EReal.coe_toReal h.2 h.1).symm⟩
theorem Real'.ne_bot {x : EReal} (h : Real' x) : x ≠ ⊥ := by obtain ⟨r, rfl⟩ := h; exact EReal.coe_ne_bot r
theorem Real'.ne_top {x : EReal} (h : Real' x) : x ≠ ⊤ := by obtain ⟨r, rfl⟩ := h; exact EReal.coe_ne_top r
theorem Real'.add {x y : EReal} (hx : Real' x) (hy : Real' y) : Real' (x + y) := by
  obtain ⟨r, rfl⟩ := hx; obtain ⟨s, rfl⟩ := hy; exact ⟨r + s, (EReal.coe_add r s).symm⟩
theorem Real'.mul {x y : EReal} (hx : Real' x) (hy : Real' y) : Real' (x * y) := by
  obtain ⟨r, rfl⟩ := hx; obtain ⟨s, rfl⟩ := hy; exact ⟨r * s, (EReal.coe_mul r s).symm⟩
theorem real_sum {N : ℕ} (f : Fin N → EReal) (h : ∀ n, Real' (f n)) : Real' (∑ n, f n) := by
  choose r hr using h
  refine ⟨∑ n, r n, (Finset.sum_congr rfl fun n _ => hr n).trans ?_⟩
  exact (map_sum (⟨⟨Real.toEReal, EReal.coe_zero⟩, EReal.coe_add⟩ : ℝ →+ EReal) r Finset.univ).symm
theorem real_tanh (x : EReal) : Real' (Ideal.tanh x) := by
  induction x using EReal.rec with
  | bot => exact ⟨-1, rfl⟩
  | coe r => exact ⟨Real.tanh r, rfl⟩
  | top => exact ⟨1, rfl⟩

theorem exp_nonneg (x : EReal) : 0 ≤ Ideal.exp x := by
  induction x using EReal.rec with
  | bot => exact le_refl (0 : EReal)
  | coe r => exact EReal.coe_nonneg.2 (Real.exp_nonneg r)
  | top => exact le_top

theorem real_logit (f g w1 w2 : Fin 512 → EReal) (b : EReal) (hf : ∀ x, Real' (f x)) (hg : ∀ x, Real' (g x)) (h1 : ∀ x, Real' (w1 x)) (h2 : ∀ x, Real' (w2 x)) (hb : Real' b) :
    Real' (logit f g w1 w2 b) :=
  ((real_sum _ fun x => (hf x).mul (h1 x)).add (real_sum _ fun x => (hg x).mul (h2 x))).add hb

theorem top_eq_sup {N : ℕ} (l : Fin N → EReal) : top l = Finset.univ.sup l := rfl

theorem top_pad (l : Fin 256 → EReal) (hp : ∀ n : Fin 256, 251 ≤ n.val → l n = ⊥) : top l = top fun n : Fin 251 => l ⟨n.val, by omega⟩ := by
  rw [top_eq_sup, top_eq_sup]
  refine le_antisymm (Finset.sup_le fun n _ => ?_) (Finset.sup_le fun n _ => Finset.le_sup (f := l) (Finset.mem_univ _))
  by_cases h : n.val < 251
  · exact Finset.le_sup (f := fun n : Fin 251 => l ⟨n.val, by omega⟩) (Finset.mem_univ (⟨n.val, h⟩ : Fin 251))
  · rw [hp n (by omega)]
    exact bot_le

theorem top_attained (l : Fin 251 → EReal) : ∃ n, top l = l n := by
  obtain ⟨n, _, h⟩ := Finset.exists_mem_eq_sup (Finset.univ : Finset (Fin 251)) ⟨0, Finset.mem_univ _⟩ l
  exact ⟨n, h⟩

/-- Padded with minus infinity, and with the reciprocal of the sum as a factor, the probabilities of finite values are the plain quotients. -/
theorem soft_pad (l : Fin 256 → EReal) (hp : ∀ n : Fin 256, 251 ≤ n.val → l n = ⊥) (hr : ∀ n : Fin 256, n.val < 251 → Real' (l n)) (n : Fin 251) :
    soft l ⟨n.val, by omega⟩
      = Ideal.div (Ideal.exp (l ⟨n.val, by omega⟩ - top fun n : Fin 251 => l ⟨n.val, by omega⟩)) (∑ x : Fin 251, Ideal.exp (l ⟨x.val, by omega⟩ - top fun n : Fin 251 => l ⟨n.val, by omega⟩)) := by
  unfold soft
  rw [top_pad l hp]
  set M := top fun n : Fin 251 => l ⟨n.val, by omega⟩ with hM
  have hs : (∑ x : Fin 256, Ideal.exp (l x - M)) = ∑ x : Fin 251, Ideal.exp (l ⟨x.val, by omega⟩ - M) := by
    rw [show (∑ x : Fin 256, Ideal.exp (l x - M)) = ∑ x : Fin (251 + 5), Ideal.exp (l x - M) from rfl, Fin.sum_univ_add]
    have z : ∀ x : Fin 5, Ideal.exp (l (Fin.natAdd 251 x) - M) = 0 := fun x => by
      rw [hp (Fin.natAdd 251 x) (by show 251 ≤ 251 + x.val; omega), EReal.bot_sub]
      rfl
    rw [Finset.sum_congr rfl fun x _ => z x, Finset.sum_const_zero, add_zero]
    rfl
  rw [hs]
  refine Ideal.mul_one_div ?_
  obtain ⟨k, hk⟩ := top_attained fun n : Fin 251 => l ⟨n.val, by omega⟩
  have hk' : M = l ⟨k.val, by omega⟩ := hk
  have h1 : Ideal.exp (l ⟨k.val, by omega⟩ - M) = 1 := by
    obtain ⟨r, e⟩ := hr ⟨k.val, by omega⟩ k.isLt
    rw [hk', e, EReal.sub_self (EReal.coe_ne_top r) (EReal.coe_ne_bot r)]
    show ((Real.exp 0 : ℝ) : EReal) = 1
    rw [Real.exp_zero, EReal.coe_one]
  have h2 := Finset.single_le_sum (f := fun x : Fin 251 => Ideal.exp (l ⟨x.val, by omega⟩ - M)) (fun x _ => exp_nonneg _) (Finset.mem_univ k)
  intro h0
  rw [h0] at h2
  have h3 : (1 : EReal) ≤ 0 := h1 ▸ h2
  exact absurd h3 (by norm_num)

end Cert.Math

end
-- ==== Proof.Spec.lean ====
/- The two results as functions of the eighteen arguments: three lookups, two recurrences, one projection, the probabilities. -/
module

public import proofs.«01_k».proof.Proof.Soft

@[expose] public section

set_option maxRecDepth 16384

noncomputable section

namespace Cert.Math

open Idealize.ShloMosaic Idealize.ShloMosaic.Pointwise

/-- The arguments: the three id arrays, the initial states, the three tables, each direction's weights and biases, the output projection. -/
structure Args where
  ids : (⟨2, ![16, 2048]⟩ : Shape).Idx → BitVec 32
  deps : (⟨2, ![16, 2048]⟩ : Shape).Idx → BitVec 32
  poss : (⟨2, ![16, 2048]⟩ : Shape).Idx → BitVec 32
  init : (⟨3, ![2, 16, 512]⟩ : Shape).Idx → EReal
  words : (⟨2, ![251, 128]⟩ : Shape).Idx → EReal
  depT : (⟨2, ![51, 128]⟩ : Shape).Idx → EReal
  posT : (⟨2, ![51, 128]⟩ : Shape).Idx → EReal
  wF : (⟨2, ![512, 384]⟩ : Shape).Idx → EReal
  uF : (⟨2, ![512, 512]⟩ : Shape).Idx → EReal
  bF : (⟨1, ![512]⟩ : Shape).Idx → EReal
  cF : (⟨1, ![512]⟩ : Shape).Idx → EReal
  wB : (⟨2, ![512, 384]⟩ : Shape).Idx → EReal
  uB : (⟨2, ![512, 512]⟩ : Shape).Idx → EReal
  bB : (⟨1, ![512]⟩ : Shape).Idx → EReal
  cB : (⟨1, ![512]⟩ : Shape).Idx → EReal
  wL : (⟨2, ![251, 1024]⟩ : Shape).Idx → EReal
  bL : (⟨1, ![251]⟩ : Shape).Idx → EReal

namespace Args

variable (A : Args)

/-- What the precondition says. -/
structure Ok : Prop where
  ids : ∀ i, (A.ids i).toNat ≤ 250
  deps : ∀ i, (A.deps i).toNat ≤ 50
  poss : ∀ i, (A.poss i).toNat ≤ 50
  wL : ∀ i, A.wL i ≠ ⊥ ∧ A.wL i ≠ ⊤
  bL : ∀ i, A.bL i ≠ ⊥ ∧ A.bL i ≠ ⊤

variable {A} (h : A.Ok)

/-- The embedded sequence: the three lookups side by side. -/
def emb (h : A.Ok) (a : Fin 16) (s : Fin 2048) (q : Fin 384) : EReal :=
  if e : q.val < 128 then A.words (ix2 ⟨(A.ids (ix2 a s)).toNat, Nat.lt_succ_of_le (h.ids _)⟩ ⟨q.val, e⟩)
  else if e' : q.val - 128 < 128 then A.depT (ix2 ⟨(A.deps (ix2 a s)).toNat, Nat.lt_succ_of_le (h.deps _)⟩ ⟨q.val - 128, e'⟩)
  else A.posT (ix2 ⟨(A.poss (ix2 a s)).toNat, Nat.lt_succ_of_le (h.poss _)⟩ ⟨q.val - 128 - 128, by omega⟩)

/-- The input products of the two directions by step. -/
def inF (s : ℕ) (a : Fin 16) (n : Fin 512) : EReal :=
  if e : s < 2048 then (∑ q : Fin 384, emb h a ⟨s, e⟩ q * A.wF (ix2 n q)) + A.bF (ix1 n) else 0
def inB (s : ℕ) (a : Fin 16) (n : Fin 512) : EReal :=
  if e : s < 2048 then (∑ q : Fin 384, emb h a ⟨2047 - s, by omega⟩ q * A.wB (ix2 n q)) + A.bB (ix1 n) else 0

/-- The states of the two directions by step. -/
def stF : ℕ → Fin 16 → Fin 512 → EReal := states (inF h) (fun q n => A.uF (ix2 n q)) (fun n => A.cF (ix1 n)) (fun a n => A.init (ix3 0 a n))
def stB : ℕ → Fin 16 → Fin 512 → EReal := states (inB h) (fun q n => A.uB (ix2 n q)) (fun n => A.cB (ix1 n)) (fun a n => A.init (ix3 1 a n))

/-- The first result. -/
def out0 (a : Fin 16) (l : Fin 2046) (n : Fin 251) : EReal :=
  logit (fun x => stF h (l.val + 1) a x) (fun x => stB h (2045 - l.val + 1) a x) (fun x => A.wL (ix2 n (Fin.castAdd 512 x))) (fun x => A.wL (ix2 n (Fin.natAdd 512 x))) (A.bL (ix1 n))

/-- The second result. -/
def out1 (a : Fin 16) (l : Fin 2046) (n : Fin 251) : EReal :=
  Ideal.div (Ideal.exp (out0 h a l n - top fun x => out0 h a l x)) (∑ n, Ideal.exp (out0 h a l n - top fun x => out0 h a l x))

theorem real_out0 (a : Fin 16) (l : Fin 2046) (n : Fin 251) : Real' (out0 h a l n) :=
  real_logit _ _ _ _ _ (fun x => real_tanh _) (fun x => real_tanh _) (fun x => real_of_ne (h.wL _)) (fun x => real_of_ne (h.wL _)) (real_of_ne (h.bL _))

end Args

end Cert.Math

end
-- ==== Proof.Value0.lean ====
/- Region 0's two output arrays: at time `s`, sequence `a`, unit `n` the input product of the row the ids pick, plus the bias. -/
module

public import proofs.«01_k».proof.Proof.Region0I
public import proofs.«01_k».proof.Proof.Math
public import Idealize.ShloMosaic.Lib.Pipeline.ValueKit

@[expose] public section

set_option maxRecDepth 16384

noncomputable section

namespace Cert.KernelIdeal.R0

open Cert.KernelIdeal.Gen Cert.Math
open Idealize.ShloMosaic Idealize.ShloMosaic.Pointwise Idealize.ShloMosaic.TcCoe

/-- One row of the one-hot product is the picked row. -/
theorem pay3_apply (e : Vec Ideal S512x384 .bf16) (w d p : Vec Ideal S128x16 .i32) (j : Fin 128) (a : Fin 16) (h) (q : Fin 384) :
    k0_pay3 (F := Ideal) e w d p (ix2 ⟨j.val * 16 + a.val, h⟩ q) = pick (w (ix2 j a)) (d (ix2 j a)) (p (ix2 j a)) (fun k q => e (ix2 k q)) q := by
  have e1 : (⟨(j.val * 16 + a.val) / 16, by omega⟩ : Fin 128) = j := Fin.ext (by have := a.isLt; show (j.val * 16 + a.val) / 16 = j.val; omega)
  have e2 : (⟨(j.val * 16 + a.val) % 16, by omega⟩ : Fin 16) = a := Fin.ext (by have := a.isLt; show (j.val * 16 + a.val) % 16 = a.val; omega)
  pointwise [k0_pay3, k0_pay2]
  unfold pick
  refine Finset.sum_congr rfl fun x _ => ?_
  simp only [e1, e2]
  rfl

theorem pay11_eq (e : Vec Ideal S512x384 .bf16) (w d p : Vec Ideal S128x16 .i32) : k0_pay11 (F := Ideal) (k0_pay2 e) w d p = k0_pay3 e w d p := rfl

/-- The forward block. -/
theorem pay10_apply (e : Vec Ideal S512x384 .bf16) (w d p : Vec Ideal S128x16 .i32) (wi : Vec Ideal S384x512 .bf16) (b : Vec Ideal S1x512 .f32)
    (j : Fin 128) (a : Fin 16) (n : Fin 512) :
    k0_pay10 (F := Ideal) (k0_pay5 b) (k0_pay6 e w d p wi) (k0_pay7 e w d p wi) (k0_pay8 e w d p) (k0_pay9 wi) (ix3 j a n)
      = proj3 (pick (w (ix2 j a)) (d (ix2 j a)) (p (ix2 j a)) (fun k q => e (ix2 k q))) (fun q => wi (ix2 q n)) (b (ix2 0 n)) := by
  pointwise [k0_pay10, k0_pay5, k0_pay6, k0_pay7, k0_pay8, k0_pay9, k0_pay4]
  simp only [pay3_apply]
  rfl

/-- The backward block. -/
theorem pay1_apply (e : Vec Ideal S512x384 .bf16) (w d p : Vec Ideal S128x16 .i32) (wi : Vec Ideal S384x512 .bf16) (b : Vec Ideal S1x512 .f32)
    (j : Fin 128) (a : Fin 16) (n : Fin 512) :
    k0_pay1 (F := Ideal) (k0_pay11 (k0_pay2 e) w d p) (k0_pay12 wi) (k0_pay13 b) (k0_pay14 (k0_pay2 e) w d p) (k0_pay15 wi) (constant S2048x512 .f32 0x00000000#32) (ix3 j a n)
      = proj3 (pick (w (ix2 j a)) (d (ix2 j a)) (p (ix2 j a)) (fun k q => e (ix2 k q))) (fun q => wi (ix2 q n)) (b (ix2 0 n)) := by
  pointwise [k0_pay1, k0_pay12, k0_pay13, k0_pay14, k0_pay15, pay11_eq]
  simp only [pay3_apply]
  rfl

variable (W : Dev nD → Valuation τ sig (Elt Ideal))

/-- Every window's block index. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_10.index t = ![0, 0]
    ∧ win0_11.index t = ![t.val, 0, 0] ∧ win0_12.index t = ![t.val, 0, 0] :=
  (by decide +kernel : ∀ t : Fin grid0.N, _)

/-- The arrays' whole blocks. -/
theorem iblk6 (c : Dev nD) (t) : iblk W c 6 t = (W c main_v27 : Vec Ideal S512x384 .bf16) := by blk_ext! [iblk, idx t]
theorem iblk7 (c : Dev nD) (t) : iblk W c 7 t = (W c main_v29 : Vec Ideal S384x512 .bf16) := by blk_ext! [iblk, idx t]
theorem iblk8 (c : Dev nD) (t) : iblk W c 8 t = (W c main_v31 : Vec Ideal S384x512 .bf16) := by blk_ext! [iblk, idx t]
theorem iblk9 (c : Dev nD) (t) : iblk W c 9 t = (W c main_v36 : Vec Ideal S1x512 .f32) := by blk_ext! [iblk, idx t]
theorem iblk10 (c : Dev nD) (t) : iblk W c 10 t = (W c main_v37 : Vec Ideal S1x512 .f32) := by blk_ext! [iblk, idx t]

/-- The ids' blocks. -/
theorem iblk0 (c : Dev nD) (t : Fin cfg0.N) (j : Fin 128) (a : Fin 16) (h) :
    (iblk W c 0 t : Vec Ideal S128x16 .i32) (ix2 j a) = (W c main_v0 : Vec Ideal S2048x16 .i32) (ix2 ⟨t.val * 128 + j.val, h⟩ a) := by
  blk_ext! [iblk, idx t]

theorem iblk1 (c : Dev nD) (t : Fin cfg0.N) (j : Fin 128) (a : Fin 16) (h) :
    (iblk W c 1 t : Vec Ideal S128x16 .i32) (ix2 j a) = (W c main_v1 : Vec Ideal S2048x16 .i32) (ix2 ⟨t.val * 128 + j.val, h⟩ a) := by
  blk_ext! [iblk, idx t]
theorem iblk2 (c : Dev nD) (t : Fin cfg0.N) (j : Fin 128) (a : Fin 16) (h) :
    (iblk W c 2 t : Vec Ideal S128x16 .i32) (ix2 j a) = (W c main_v2 : Vec Ideal S2048x16 .i32) (ix2 ⟨t.val * 128 + j.val, h⟩ a) := by
  blk_ext! [iblk, idx t]
theorem iblk3 (c : Dev nD) (t : Fin cfg0.N) (j : Fin 128) (a : Fin 16) (h) :
    (iblk W c 3 t : Vec Ideal S128x16 .i32) (ix2 j a) = (W c main_v5 : Vec Ideal S2048x16 .i32) (ix2 ⟨t.val * 128 + j.val, h⟩ a) := by
  blk_ext! [iblk, idx t]
theorem iblk4 (c : Dev nD) (t : Fin cfg0.N) (j : Fin 128) (a : Fin 16) (h) :
    (iblk W c 4 t : Vec Ideal S128x16 .i32) (ix2 j a) = (W c main_v8 : Vec Ideal S2048x16 .i32) (ix2 ⟨t.val * 128 + j.val, h⟩ a) := by
  blk_ext! [iblk, idx t]
theorem iblk5 (c : Dev nD) (t : Fin cfg0.N) (j : Fin 128) (a : Fin 16) (h) :
    (iblk W c 5 t : Vec Ideal S128x16 .i32) (ix2 j a) = (W c main_v11 : Vec Ideal S2048x16 .i32) (ix2 ⟨t.val * 128 + j.val, h⟩ a) := by
  blk_ext! [iblk, idx t]

theorem emb11 (t : Fin cfg0.N) (j : Fin 128) (a : Fin 16) (n : Fin 512) (h) :
    ((cfg0.win 11).blk t).view.emb (ix3 j a n : S128x16x512.Idx) = (ix3 ⟨t.val * 128 + j.val, h⟩ a n : S2048x16x512.Idx) := by
  funext a; apply Fin.ext; fin_cases a <;> blk_simp [idx t] <;> simp
theorem emb12 (t : Fin cfg0.N) (j : Fin 128) (a : Fin 16) (n : Fin 512) (h) :
    ((cfg0.win 12).blk t).view.emb (ix3 j a n : S128x16x512.Idx) = (ix3 ⟨t.val * 128 + j.val, h⟩ a n : S2048x16x512.Idx) := by
  funext a; apply Fin.ext; fin_cases a <;> blk_simp [idx t] <;> simp

theorem eta (y : S128x16x512.Idx) : ∃ (j : Fin 128) (a : Fin 16) (n : Fin 512), y = (ix3 j a n : S128x16x512.Idx) :=
  ⟨y 0, y 1, y 2, by funext a; fin_cases a <;> rfl⟩

theorem lt_rows (t : Fin cfg0.N) (j : Fin 128) : t.val * 128 + j.val < 2048 := by
  have h1 : t.val < 16 := t.isLt
  have := j.isLt; omega

/-- What the forward input products are, at an index of the array. -/
def G11 (c : Dev nD) : Vec Ideal S2048x16x512 .f32 := fun i =>
  proj3 (pick ((W c main_v0 : Vec Ideal S2048x16 .i32) (ix2 (i 0) (i 1))) ((W c main_v1 : Vec Ideal S2048x16 .i32) (ix2 (i 0) (i 1)))
      ((W c main_v2 : Vec Ideal S2048x16 .i32) (ix2 (i 0) (i 1))) (fun k q => (W c main_v27 : Vec Ideal S512x384 .bf16) (ix2 k q)))
    (fun q => (W c main_v29 : Vec Ideal S384x512 .bf16) (ix2 q (i 2))) ((W c main_v36 : Vec Ideal S1x512 .f32) (ix2 0 (i 2)))

theorem final11 (c : Dev nD) : (dat W c).arrAt 11 cfg0.N = G11 W c := by
  refine (dat W c).arrAt_eq_of_covers 11 (G11 W c) (by decide +kernel) fun t hf y => ?_
  obtain ⟨j, a, n, hy⟩ := eta y
  subst hy
  rw [emb11 t j a n (lt_rows t j), after0_11]
  unfold out0_11 G11
  blk_simp
  frame_out
  rw [pay10_apply, iblk6, iblk7, iblk9, iblk0 W c t j a (lt_rows t j), iblk1 W c t j a (lt_rows t j), iblk2 W c t j a (lt_rows t j)]
  rfl

/-- What the backward input products are, at an index of the array. -/
def G12 (c : Dev nD) : Vec Ideal S2048x16x512 .f32 := fun i =>
  proj3 (pick ((W c main_v5 : Vec Ideal S2048x16 .i32) (ix2 (i 0) (i 1))) ((W c main_v8 : Vec Ideal S2048x16 .i32) (ix2 (i 0) (i 1)))
      ((W c main_v11 : Vec Ideal S2048x16 .i32) (ix2 (i 0) (i 1))) (fun k q => (W c main_v27 : Vec Ideal S512x384 .bf16) (ix2 k q)))
    (fun q => (W c main_v31 : Vec Ideal S384x512 .bf16) (ix2 q (i 2))) ((W c main_v37 : Vec Ideal S1x512 .f32) (ix2 0 (i 2)))

theorem final12 (c : Dev nD) : (dat W c).arrAt 12 cfg0.N = G12 W c := by
  refine (dat W c).arrAt_eq_of_covers 12 (G12 W c) (by decide +kernel) fun t hf y => ?_
  obtain ⟨j, a, n, hy⟩ := eta y
  subst hy
  rw [emb12 t j a n (lt_rows t j), after0_12]
  unfold out0_12 G12
  blk_simp
  frame_out
  rw [pay1_apply, iblk6, iblk8, iblk10, iblk3 W c t j a (lt_rows t j), iblk4 W c t j a (lt_rows t j), iblk5 W c t j a (lt_rows t j)]
  rfl

end Cert.KernelIdeal.R0

end
-- ==== Proof.Value1.lean ====
/- Region 1's two output arrays: the forward states after each step, and the backward states, whose first three steps each begin at
   the first state. -/
module

public import proofs.«01_k».proof.Proof.Region1I
public import proofs.«01_k».proof.Proof.Math
public import Idealize.ShloMosaic.Lib.Pipeline.ValueKit

@[expose] public section

set_option maxRecDepth 16384

noncomputable section

namespace Cert.KernelIdeal.R1

open Cert.KernelIdeal.Gen Cert.Math
open Idealize.ShloMosaic Idealize.ShloMosaic.Pointwise Idealize.ShloMosaic.TcCoe

/-! ## The payloads of a trip -/

theorem pay3_apply (w : Vec Ideal S512x512 .bf16) (b : Vec Ideal S1x512 .f32) (h : Vec Ideal S16x512 .bf16) (x : Vec Ideal S1x16x512 .f32) (a : Fin 16) (n : Fin 512) :
    k1_pay3 (F := Ideal) w b h x (ix2 a n)
      = cell (fun a n => x (ix3 0 a n)) (fun k n => w (ix2 k n)) (fun n => b (ix2 0 n)) (fun a n => h (ix2 a n)) a n := by
  pointwise [k1_pay3]
  rfl

/-- Whether a trip of a point is one of the first three of all. -/
theorem cond_eq : ∀ (t : Fin 16) (k : Fin k1_t1_loop.trips),
    Scalar.cmpi .sge (Scalar.addi (Scalar.muli (Scalar.subi 15#32 (BitVec.ofNat 32 t.val)) 128#32) (Scalar.subi 127#32 (Scf.iv 0#32 1#32 k))) 2045#32
      = if t.val * 128 + k.val ≤ 2 then 1#1 else 0#1 := by decide +kernel

theorem pay5_apply (i : grid1.Coords) (w : Vec Ideal S512x512 .bf16) (h0 : Vec Ideal S16x512 .bf16) (b : Vec Ideal S1x512 .f32) (k : Fin k1_t1_loop.trips)
    (h : Vec Ideal S16x512 .bf16) (x : Vec Ideal S1x16x512 .f32) (a : Fin 16) (n : Fin 512) :
    k1_pay5 (F := Ideal) i w h0 b k h x (ix2 a n)
      = cell (fun a n => x (ix3 0 a n)) (fun k n => w (ix2 k n)) (fun n => b (ix2 0 n))
          (if (i 0).val * 128 + k.val ≤ 2 then fun a n => h0 (ix2 a n) else fun a n => h (ix2 a n)) a n := by
  have hc := cond_eq (i 0) k
  unfold k1_pay5
  dsimp only
  rw [hc]
  by_cases hs : (i 0).val * 128 + k.val ≤ 2
  · rw [if_pos hs, if_pos hs]
    pointwise []
    rfl
  · rw [if_neg hs, if_neg hs]
    pointwise []
    rfl

theorem pay4_apply (w : Vec Ideal S512x512 .bf16) (b : Vec Ideal S1x512 .f32) (h : Vec Ideal S16x512 .bf16) (x : Vec Ideal S1x16x512 .f32) (u : Fin 1) (a : Fin 16) (n : Fin 512) :
    k1_pay4 (F := Ideal) w b h x (ix3 u a n) = k1_pay3 w b h x (ix2 a n) := by
  pointwise [k1_pay4]

theorem pay6_apply (i : grid1.Coords) (w : Vec Ideal S512x512 .bf16) (h0 : Vec Ideal S16x512 .bf16) (b : Vec Ideal S1x512 .f32) (k : Fin k1_t1_loop.trips)
    (h : Vec Ideal S16x512 .bf16) (x : Vec Ideal S1x16x512 .f32) (u : Fin 1) (a : Fin 16) (n : Fin 512) :
    k1_pay6 (F := Ideal) i w h0 b k h x (ix3 u a n) = k1_pay5 i w h0 b k h x (ix2 a n) := by
  pointwise [k1_pay6]

theorem emb_rowF (k : Fin k1_t1_loop.trips) (u : Fin 1) (a : Fin 16) (n : Fin 512) (h) :
    (rowF k).emb (ix3 u a n : S1x16x512.Idx) = (ix3 ⟨k.val, h⟩ a n : S128x16x512.Idx) := by
  funext d; apply Fin.ext
  rw [ValueKit.rect_emb_unit_val, show k1_off1 k d = (![k.val, 0, 0] : Fin 3 → ℕ) d from congrFun (k1_off1_eq k) d]
  fin_cases d <;> simp

theorem emb_rowB (k : Fin k1_t1_loop.trips) (u : Fin 1) (a : Fin 16) (n : Fin 512) (h) :
    (rowB k).emb (ix3 u a n : S1x16x512.Idx) = (ix3 ⟨127 - k.val, h⟩ a n : S128x16x512.Idx) := by
  funext d; apply Fin.ext
  rw [ValueKit.rect_emb_unit_val, show k1_off2 k d = (![127 - k.val, 0, 0] : Fin 3 → ℕ) d from congrFun (k1_off2_eq k) d]
  fin_cases d <;> simp

theorem ld0 (x : Vec Ideal S512x512 .bf16) : View.ld x r1_0 = x := by
  funext i; rw [View.ld_apply]; congr 1; funext d; apply Fin.ext; fin_cases d <;> simp [r1_0]
theorem ld1 (x : Vec Ideal S16x512 .bf16) : View.ld x r1_1 = x := by
  funext i; rw [View.ld_apply]; congr 1; funext d; apply Fin.ext; fin_cases d <;> simp [r1_1]
theorem ld2 (x : Vec Ideal S1x512 .f32) : View.ld x r1_2 = x := by
  funext i; rw [View.ld_apply]; congr 1; funext d; apply Fin.ext; fin_cases d <;> simp [r1_2]

theorem ldF (x : Vec Ideal S128x16x512 .f32) (k : Fin k1_t1_loop.trips) (u : Fin 1) (a : Fin 16) (n : Fin 512) (h) :
    View.ld x (rowF k) (ix3 u a n : S1x16x512.Idx) = x (ix3 ⟨k.val, h⟩ a n) := congrArg x (emb_rowF k u a n h)
theorem ldB (x : Vec Ideal S128x16x512 .f32) (k : Fin k1_t1_loop.trips) (u : Fin 1) (a : Fin 16) (n : Fin 512) (h) :
    View.ld x (rowB k) (ix3 u a n : S1x16x512.Idx) = x (ix3 ⟨127 - k.val, h⟩ a n) := congrArg x (emb_rowB k u a n h)

/-! ## A point's trips -/

section Point

variable (i : grid1.Coords) (x0 x1 : Vec Ideal S128x16x512 .f32) (x2 x3 : Vec Ideal S512x512 .bf16) (x4 x5 : Vec Ideal S16x512 .bf16) (x6 x7 : Vec Ideal S1x512 .f32) (s0 : St Ideal)
variable (X Y : ℕ → Fin 16 → Fin 512 → EReal)

/-- What the point finds: the rows of both inputs by step. -/
def Finds : Prop :=
  (∀ (k : ℕ) (h : k < 128), (fun a n => x0 (ix3 ⟨k, h⟩ a n)) = X ((i 0).val * 128 + k))
    ∧ ∀ (k : ℕ) (h : 127 - k < 128), k < 128 → (fun a n => x1 (ix3 ⟨127 - k, h⟩ a n)) = Y ((i 0).val * 128 + k)

/-- The forward states by step, -/
abbrev sF : ℕ → Fin 16 → Fin 512 → EReal := states X (fun k n => x2 (ix2 k n)) (fun n => x6 (ix2 0 n)) (fun a n => x4 (ix2 a n))
/-- and the backward ones. -/
abbrev sB : ℕ → Fin 16 → Fin 512 → EReal := lateStates Y (fun k n => x3 (ix2 k n)) (fun n => x7 (ix2 0 n)) (fun a n => x5 (ix2 a n))

variable {X Y}

theorem step_fst (hF : Finds i x0 x1 X Y) (k : Fin k1_t1_loop.trips) (s : Vec Ideal S16x512 .bf16)
    (hs : (fun a n => s (ix2 a n)) = sF x2 x4 x6 X ((i 0).val * 128 + k.val)) (a : Fin 16) (n : Fin 512) :
    k1_pay3 (F := Ideal) (View.ld x2 r1_0) (View.ld x6 r1_2) s (View.ld x0 (rowF k)) (ix2 a n) = sF x2 x4 x6 X ((i 0).val * 128 + k.val + 1) a n := by
  have hk : k.val < 128 := lt_of_lt_of_eq k.isLt trips_eq
  rw [pay3_apply, ld0, ld2, hs]
  simp only [ldF x0 k 0 _ _ hk]
  rw [hF.1 k.val hk]
  rfl

theorem step_snd (hF : Finds i x0 x1 X Y) (k : Fin k1_t1_loop.trips) (s : Vec Ideal S16x512 .bf16)
    (hs : (fun a n => s (ix2 a n)) = sB x3 x5 x7 Y ((i 0).val * 128 + k.val)) (a : Fin 16) (n : Fin 512) :
    k1_pay5 (F := Ideal) i (View.ld x3 r1_0) (View.ld x5 r1_1) (View.ld x7 r1_2) k s (View.ld x1 (rowB k)) (ix2 a n)
      = sB x3 x5 x7 Y ((i 0).val * 128 + k.val + 1) a n := by
  have hk : k.val < 128 := lt_of_lt_of_eq k.isLt trips_eq
  have hb : 127 - k.val < 128 := by omega
  rw [pay5_apply, ld0, ld1, ld2, hs]
  simp only [ldB x1 k 0 _ _ hb]
  rw [hF.2 k.val hb hk]
  rfl

theorem state_eq (hF : Finds i x0 x1 X Y) (h1 : (fun a n => s0.1 (ix2 a n)) = sF x2 x4 x6 X ((i 0).val * 128))
    (h2 : (fun a n => s0.2 (ix2 a n)) = sB x3 x5 x7 Y ((i 0).val * 128)) (k : ℕ) (hk : k ≤ 128) :
    (fun a n => (state i x0 x1 x2 x3 x4 x5 x6 x7 s0 k).1 (ix2 a n)) = sF x2 x4 x6 X ((i 0).val * 128 + k)
      ∧ (fun a n => (state i x0 x1 x2 x3 x4 x5 x6 x7 s0 k).2 (ix2 a n)) = sB x3 x5 x7 Y ((i 0).val * 128 + k) := by
  induction k with
  | zero => exact ⟨h1, h2⟩
  | succ k ih =>
    obtain ⟨e1, e2⟩ := ih (by omega)
    have h : k < k1_t1_loop.trips := by rw [trips_eq]; omega
    constructor
    · funext a n
      simp only [state, dif_pos h]
      exact step_fst i x0 x1 x2 x4 x6 hF ⟨k, h⟩ _ e1 a n
    · funext a n
      simp only [state, dif_pos h]
      exact step_snd i x0 x1 x3 x5 x7 hF ⟨k, h⟩ _ e2 a n

theorem outF_eq (hF : Finds i x0 x1 X Y) (h1 : (fun a n => s0.1 (ix2 a n)) = sF x2 x4 x6 X ((i 0).val * 128))
    (h2 : (fun a n => s0.2 (ix2 a n)) = sB x3 x5 x7 Y ((i 0).val * 128)) (y : S128x16x512.Idx) :
    outF i x0 x1 x2 x3 x4 x5 x6 x7 s0 y = sF x2 x4 x6 X ((i 0).val * 128 + (y 0).val + 1) (y 1) (y 2) := by
  unfold outF
  refine View.canon_apply_of_pieces (Val := Elt Ideal) (e := .bf16) (fun y => sF x2 x4 x6 X ((i 0).val * 128 + (y 0).val + 1) (y 1) (y 2)) _ ?_ y ?_
  · suffices ∀ k, k ≤ 128 → ∀ p ∈ pcsF i x0 x1 x2 x3 x4 x5 x6 x7 s0 k, ∀ x, p.2 x
        = (fun y : S128x16x512.Idx => sF x2 x4 x6 X ((i 0).val * 128 + (y 0).val + 1) (y 1) (y 2)) (p.1.emb x) from this _ trips_eq.le
    intro k hk
    induction k with
    | zero => intro p hp; exact absurd hp List.not_mem_nil
    | succ k ih =>
      intro p hp x
      have h : k < k1_t1_loop.trips := by rw [trips_eq]; omega
      simp only [pcsF, dif_pos h, List.mem_cons] at hp
      rcases hp with rfl | hp
      · obtain ⟨u, a, n, rfl⟩ : ∃ (u : Fin 1) (a : Fin 16) (n : Fin 512), x = (ix3 u a n : S1x16x512.Idx) :=
          ⟨x 0, x 1, x 2, by funext d; fin_cases d <;> rfl⟩
        refine (pay4_apply _ _ _ _ u a n).trans ?_
        rw [emb_rowF ⟨k, h⟩ u a n (by show k < 128; omega)]
        exact step_fst i x0 x1 x2 x4 x6 hF ⟨k, h⟩ _ (state_eq i x0 x1 x2 x3 x4 x5 x6 x7 s0 hF h1 h2 k (by omega)).1 a n
      · exact ih (by omega) p hp x
  · have hy : (y 0).val < k1_t1_loop.trips := by rw [trips_eq]; exact (y 0).isLt
    exact ⟨_, mem_pcsF i x0 x1 x2 x3 x4 x5 x6 x7 s0 _ le_rfl ⟨(y 0).val, hy⟩ hy, (mem_rowF _ y).2 rfl⟩

theorem outB_eq (hF : Finds i x0 x1 X Y) (h1 : (fun a n => s0.1 (ix2 a n)) = sF x2 x4 x6 X ((i 0).val * 128))
    (h2 : (fun a n => s0.2 (ix2 a n)) = sB x3 x5 x7 Y ((i 0).val * 128)) (y : S128x16x512.Idx) :
    outB i x0 x1 x2 x3 x4 x5 x6 x7 s0 y = sB x3 x5 x7 Y ((i 0).val * 128 + (127 - (y 0).val) + 1) (y 1) (y 2) := by
  unfold outB
  refine View.canon_apply_of_pieces (Val := Elt Ideal) (e := .bf16) (fun y => sB x3 x5 x7 Y ((i 0).val * 128 + (127 - (y 0).val) + 1) (y 1) (y 2)) _ ?_ y ?_
  · suffices ∀ k, k ≤ 128 → ∀ p ∈ pcsB i x0 x1 x2 x3 x4 x5 x6 x7 s0 k, ∀ x, p.2 x
        = (fun y : S128x16x512.Idx => sB x3 x5 x7 Y ((i 0).val * 128 + (127 - (y 0).val) + 1) (y 1) (y 2)) (p.1.emb x) from this _ trips_eq.le
    intro k hk
    induction k with
    | zero => intro p hp; exact absurd hp List.not_mem_nil
    | succ k ih =>
      intro p hp x
      have h : k < k1_t1_loop.trips := by rw [trips_eq]; omega
      simp only [pcsB, dif_pos h, List.mem_cons] at hp
      rcases hp with rfl | hp
      · obtain ⟨u, a, n, rfl⟩ : ∃ (u : Fin 1) (a : Fin 16) (n : Fin 512), x = (ix3 u a n : S1x16x512.Idx) :=
          ⟨x 0, x 1, x 2, by funext d; fin_cases d <;> rfl⟩
        refine (pay6_apply i _ _ _ _ _ _ u a n).trans ?_
        rw [emb_rowB ⟨k, h⟩ u a n (by show 127 - k < 128; omega)]
        refine (step_snd i x0 x1 x3 x5 x7 hF ⟨k, h⟩ _ (state_eq i x0 x1 x2 x3 x4 x5 x6 x7 s0 hF h1 h2 k (by omega)).2 a n).trans ?_
        show sB x3 x5 x7 Y ((i 0).val * 128 + k + 1) a n = sB x3 x5 x7 Y ((i 0).val * 128 + (127 - (127 - k)) + 1) a n
        rw [show 127 - (127 - k) = k by omega]
      · exact ih (by omega) p hp x
  · have hy0 : (y 0).val < 128 := (y 0).isLt
    have hy : 127 - (y 0).val < k1_t1_loop.trips := by rw [trips_eq]; omega
    exact ⟨_, mem_pcsB i x0 x1 x2 x3 x4 x5 x6 x7 s0 _ le_rfl ⟨127 - (y 0).val, hy⟩ hy, (mem_rowB _ y).2 (by show (y 0).val = 127 - (127 - (y 0).val); omega)⟩

end Point

/-! ## The grid -/

variable (W : Dev nD → Valuation τ sig (Elt Ideal))

/-- Every window's block index. -/
theorem idx : ∀ t : Fin cfg1.N, win1_0.index t = ![t.val, 0, 0] ∧ win1_1.index t = ![15 - t.val, 0, 0] ∧ win1_2.index t = ![0, 0]
    ∧ win1_3.index t = ![0, 0] ∧ win1_4.index t = ![0, 0] ∧ win1_5.index t = ![0, 0] ∧ win1_6.index t = ![0, 0]
    ∧ win1_7.index t = ![0, 0] ∧ win1_8.index t = ![t.val, 0, 0] ∧ win1_9.index t = ![15 - t.val, 0, 0] :=
  (by decide +kernel : ∀ t : Fin grid1.N, _)

theorem iblk2 (c : Dev nD) (t) : iblk W c 2 t = (W c main_v33 : Vec Ideal S512x512 .bf16) := by blk_ext! [iblk, idx t]
theorem iblk3 (c : Dev nD) (t) : iblk W c 3 t = (W c main_v35 : Vec Ideal S512x512 .bf16) := by blk_ext! [iblk, idx t]
theorem iblk4 (c : Dev nD) (t) : iblk W c 4 t = (W c main_v43 : Vec Ideal S16x512 .bf16) := by blk_ext! [iblk, idx t]
theorem iblk5 (c : Dev nD) (t) : iblk W c 5 t = (W c main_v45 : Vec Ideal S16x512 .bf16) := by blk_ext! [iblk, idx t]
theorem iblk6 (c : Dev nD) (t) : iblk W c 6 t = (W c main_v38 : Vec Ideal S1x512 .f32) := by blk_ext! [iblk, idx t]
theorem iblk7 (c : Dev nD) (t) : iblk W c 7 t = (W c main_v39 : Vec Ideal S1x512 .f32) := by blk_ext! [iblk, idx t]

theorem iblk0 (c : Dev nD) (t : Fin cfg1.N) (j : Fin 128) (a : Fin 16) (n : Fin 512) (h) :
    (iblk W c 0 t : Vec Ideal S128x16x512 .f32) (ix3 j a n) = (W c main_v41_0 : Vec Ideal S2048x16x512 .f32) (ix3 ⟨t.val * 128 + j.val, h⟩ a n) := by
  blk_ext! [iblk, idx t]
theorem iblk1 (c : Dev nD) (t : Fin cfg1.N) (j : Fin 128) (a : Fin 16) (n : Fin 512) (h) :
    (iblk W c 1 t : Vec Ideal S128x16x512 .f32) (ix3 j a n) = (W c main_v41_1 : Vec Ideal S2048x16x512 .f32) (ix3 ⟨(15 - t.val) * 128 + j.val, h⟩ a n) := by
  blk_ext! [iblk, idx t]

theorem emb8 (t : Fin cfg1.N) (j : Fin 128) (a : Fin 16) (n : Fin 512) (h) :
    ((cfg1.win 8).blk t).view.emb (ix3 j a n : S128x16x512.Idx) = (ix3 ⟨t.val * 128 + j.val, h⟩ a n : S2048x16x512.Idx) := by
  funext a; apply Fin.ext; fin_cases a <;> blk_simp [idx t] <;> simp
theorem emb9 (t : Fin cfg1.N) (j : Fin 128) (a : Fin 16) (n : Fin 512) (h) :
    ((cfg1.win 9).blk t).view.emb (ix3 j a n : S128x16x512.Idx) = (ix3 ⟨(15 - t.val) * 128 + j.val, h⟩ a n : S2048x16x512.Idx) := by
  funext a; apply Fin.ext; fin_cases a <;> blk_simp [idx t] <;> simp

theorem eta (y : S128x16x512.Idx) : ∃ (j : Fin 128) (a : Fin 16) (n : Fin 512), y = (ix3 j a n : S128x16x512.Idx) :=
  ⟨y 0, y 1, y 2, by funext a; fin_cases a <;> rfl⟩

/-- The inputs of both directions by step: the backward one runs from the last row down. -/
def XF (c : Dev nD) (s : ℕ) (a : Fin 16) (n : Fin 512) : EReal :=
  if h : s < 2048 then (W c main_v41_0 : Vec Ideal S2048x16x512 .f32) (ix3 ⟨s, h⟩ a n) else 0
def XB (c : Dev nD) (s : ℕ) (a : Fin 16) (n : Fin 512) : EReal :=
  (W c main_v41_1 : Vec Ideal S2048x16x512 .f32) (ix3 ⟨2047 - s, by omega⟩ a n)

/-- The states of both directions by step. -/
def HF (c : Dev nD) : ℕ → Fin 16 → Fin 512 → EReal :=
  sF (W c main_v33 : Vec Ideal S512x512 .bf16) (W c main_v43 : Vec Ideal S16x512 .bf16) (W c main_v38 : Vec Ideal S1x512 .f32) (XF W c)
def HB (c : Dev nD) : ℕ → Fin 16 → Fin 512 → EReal :=
  sB (W c main_v35 : Vec Ideal S512x512 .bf16) (W c main_v45 : Vec Ideal S16x512 .bf16) (W c main_v39 : Vec Ideal S1x512 .f32) (XB W c)

theorem finds (c : Dev nD) (t : Fin cfg1.N) : Finds (grid1.coords t) (iblk W c 0 t) (iblk W c 1 t) (XF W c) (XB W c) := by
  have h1 : t.val < 16 := t.isLt
  constructor
  · intro k h
    funext a n
    rw [coord_val, XF, dif_pos (by omega)]
    exact iblk0 W c t ⟨k, h⟩ a n (by show t.val * 128 + k < 2048; omega)
  · intro k h hk
    funext a n
    rw [coord_val, XB]
    refine (iblk1 W c t ⟨127 - k, h⟩ a n (by show (15 - t.val) * 128 + (127 - k) < 2048; omega)).trans ?_
    congr 2
    apply Fin.ext
    show (15 - t.val) * 128 + (127 - k) = 2047 - (t.val * 128 + k)
    omega

/-- The states a point begins with. -/
theorem init_eq (c : Dev nD) (t : ℕ) (ht : t ≤ 16) :
    (fun a n => (init W c t).1 (ix2 a n)) = HF W c (t * 128) ∧ (fun a n => (init W c t).2 (ix2 a n)) = HB W c (t * 128) := by
  induction t with
  | zero =>
    constructor
    · funext a n
      simp only [init, start]
      pointwise [k1_pay1, ld1, iblk4]
      rfl
    · funext a n
      simp only [init, start]
      pointwise [k1_pay2, ld1, iblk5]
      rfl
  | succ t ih =>
    obtain ⟨e1, e2⟩ := ih (by omega)
    let u : Fin cfg1.N := ⟨t, by show t < 16; omega⟩
    have hs : init W c (t + 1) = _ := init_succ W c u
    have h := state_eq (grid1.coords u) (iblk W c 0 u) (iblk W c 1 u) (iblk W c 2 u) (iblk W c 3 u) (iblk W c 4 u) (iblk W c 5 u)
      (iblk W c 6 u) (iblk W c 7 u) (init W c t) (finds W c u)
      (by rw [coord_val, iblk2, iblk4, iblk6]; exact e1) (by rw [coord_val, iblk3, iblk5, iblk7]; exact e2) 128 le_rfl
    rw [hs]
    rw [coord_val, iblk2, iblk3, iblk4, iblk5, iblk6, iblk7] at h
    simp only [kept, fin, trips_eq, iblk2, iblk3, iblk4, iblk5, iblk6, iblk7]
    rw [show (t + 1) * 128 = t * 128 + 128 by omega]
    constructor
    · rw [HF, ← h.1]
      funext a n
      pointwise [k1_pay7]
      rfl
    · rw [HB, ← h.2]
      funext a n
      pointwise [k1_pay8]
      rfl

theorem final8 (c : Dev nD) : (dat W c).arrAt 8 cfg1.N = (fun i => HF W c ((i 0).val + 1) (i 1) (i 2) : Vec Ideal S2048x16x512 .bf16) := by
  refine (dat W c).arrAt_eq_of_covers 8 _ (by decide +kernel) fun t hf y => ?_
  obtain ⟨j, a, n, hy⟩ := eta y
  subst hy
  have h1 : t.val < 16 := t.isLt
  obtain ⟨e1, e2⟩ := init_eq W c t.val h1.le
  rw [emb8 t j a n (by omega), after1_8, outF_eq _ _ _ _ _ _ _ _ _ _ (finds W c t)
    (by rw [coord_val, iblk2, iblk4, iblk6]; exact e1) (by rw [coord_val, iblk3, iblk5, iblk7]; exact e2), coord_val, iblk2, iblk4, iblk6]
  rfl

theorem final9 (c : Dev nD) : (dat W c).arrAt 9 cfg1.N = (fun i => HB W c (2048 - (i 0).val) (i 1) (i 2) : Vec Ideal S2048x16x512 .bf16) := by
  refine (dat W c).arrAt_eq_of_covers 9 _ (by decide +kernel) fun t hf y => ?_
  obtain ⟨j, a, n, hy⟩ := eta y
  subst hy
  have h1 : t.val < 16 := t.isLt
  have h2 := j.isLt
  obtain ⟨e1, e2⟩ := init_eq W c t.val h1.le
  rw [emb9 t j a n (by omega), after1_9, outB_eq _ _ _ _ _ _ _ _ _ _ (finds W c t)
    (by rw [coord_val, iblk2, iblk4, iblk6]; exact e1) (by rw [coord_val, iblk3, iblk5, iblk7]; exact e2), coord_val, iblk3, iblk5, iblk7]
  show HB W c (t.val * 128 + (127 - j.val) + 1) a n = HB W c (2048 - ((15 - t.val) * 128 + j.val)) a n
  congr 1
  omega

end Cert.KernelIdeal.R1

end
-- ==== Proof.Value2.lean ====
/- Region 2's two output arrays: the logits of 256 classes, of which the last five are masked, and their probabilities. -/
module

public import proofs.«01_k».proof.Proof.Region2I
public import proofs.«01_k».proof.Proof.Math
public import Idealize.ShloMosaic.Lib.Pipeline.ValueKit

@[expose] public section

set_option maxRecDepth 16384

noncomputable section

namespace Cert.KernelIdeal.R2

open Cert.KernelIdeal.Gen Cert.Math
open Idealize.ShloMosaic Idealize.ShloMosaic.Pointwise Idealize.ShloMosaic.TcCoe

/-- The logits of a row of both states. -/
def lg (f g : Fin 512 → EReal) (w1 w2 : Vec Ideal S512x256 .f32) (b : Vec Ideal S1x256 .f32) (n : Fin 256) : EReal :=
  logit f g (fun x => w1 (ix2 x n)) (fun x => w2 (ix2 x n)) (if n.val < 251 then b (ix2 0 n) else ⊥)

theorem mask_eq : (Named.named κ "mask" 0xF149F2CA#32 : Ideal .f32) = (⊥ : EReal) := IdealRules.named_const.ideal_named_scalar _ _ _ _ rfl

theorem select_eq (n : Fin 256) (x y : EReal) :
    Scalar.select (IntOp.cmpi CmpIPredicate.slt (BitVec.ofNat 32 n.val) 251#32) x y = if n.val < 251 then x else y := by
  have hn := n.isLt
  have h : (BitVec.ofNat 32 n.val).slt 251#32 = decide (n.val < 251) := by
    rw [Bool.eq_iff_iff, BitVec.slt_iff_toInt_lt, BitVec.toInt_eq_toNat_of_lt (by simp; omega)]
    simp; omega
  simp only [IntOp.cmpi, h, Scalar.select]
  by_cases h' : n.val < 251 <;> simp [h']

theorem pay2_apply (f g : Vec Ideal S128x16x512 .bf16) (w1 w2 : Vec Ideal S512x256 .f32) (b : Vec Ideal S1x256 .f32) (j : Fin 128) (a : Fin 16) (h) (n : Fin 256) :
    k2_pay2 (F := Ideal) f g w1 w2 b (ix2 ⟨j.val * 16 + a.val, h⟩ n) = lg (fun x => f (ix3 j a x)) (fun x => g (ix3 j a x)) w1 w2 b n := by
  pointwise [k2_pay2]
  rw [select_eq, mask_eq]
  rfl

theorem bot_eq : Ideal.ofBits FTy.f32 0xFF800000#32 = ⊥ := by
  simp [Ideal.ofBits, Ideal.ieee]

theorem pay3_apply (f g : Vec Ideal S128x16x512 .bf16) (w1 w2 : Vec Ideal S512x256 .f32) (b : Vec Ideal S1x256 .f32) (j : Fin 128) (a : Fin 16) (h) (n : Fin 256) :
    k2_pay3 (F := Ideal) f g w1 w2 b (ix2 ⟨j.val * 16 + a.val, h⟩ n) = soft (lg (fun x => f (ix3 j a x)) (fun x => g (ix3 j a x)) w1 w2 b) n := by
  pointwise [k2_pay3]
  simp only [pay2_apply, bot_eq]
  rfl

theorem pay4_apply (f g : Vec Ideal S128x16x512 .bf16) (w1 w2 : Vec Ideal S512x256 .f32) (b : Vec Ideal S1x256 .f32) (j : Fin 128) (a : Fin 16) (n : Fin 256) :
    k2_pay4 (F := Ideal) f g w1 w2 b (ix3 j a n) = lg (fun x => f (ix3 j a x)) (fun x => g (ix3 j a x)) w1 w2 b n := by
  pointwise [k2_pay4]
  exact pay2_apply ..

theorem pay1_apply (f g : Vec Ideal S128x16x512 .bf16) (w1 w2 : Vec Ideal S512x256 .f32) (b : Vec Ideal S1x256 .f32) (j : Fin 128) (a : Fin 16) (n : Fin 256) :
    k2_pay1 (F := Ideal) (k2_pay3 f g w1 w2 b) (ix3 j a n) = soft (lg (fun x => f (ix3 j a x)) (fun x => g (ix3 j a x)) w1 w2 b) n := by
  pointwise [k2_pay1]
  exact pay3_apply ..

variable (W : Dev nD → Valuation τ sig (Elt Ideal))

/-- Every window's block index. -/
theorem idx : ∀ t : Fin cfg2.N, win2_0.index t = ![t.val, 0, 0] ∧ win2_1.index t = ![t.val, 0, 0] ∧ win2_2.index t = ![0, 0]
    ∧ win2_3.index t = ![0, 0] ∧ win2_4.index t = ![0, 0] ∧ win2_5.index t = ![t.val, 0, 0] ∧ win2_6.index t = ![t.val, 0, 0] :=
  (by decide +kernel : ∀ t : Fin grid2.N, _)

theorem iblk2 (c : Dev nD) (t) : iblk W c 2 t = (W c main_v51 : Vec Ideal S512x256 .f32) := by blk_ext! [iblk, idx t]
theorem iblk3 (c : Dev nD) (t) : iblk W c 3 t = (W c main_v56 : Vec Ideal S512x256 .f32) := by blk_ext! [iblk, idx t]
theorem iblk4 (c : Dev nD) (t) : iblk W c 4 t = (W c main_v61 : Vec Ideal S1x256 .f32) := by blk_ext! [iblk, idx t]
theorem iblk0 (c : Dev nD) (t : Fin cfg2.N) (j : Fin 128) (a : Fin 16) (x : Fin 512) (h) :
    (iblk W c 0 t : Vec Ideal S128x16x512 .bf16) (ix3 j a x) = (W c main_v46_0 : Vec Ideal S2048x16x512 .bf16) (ix3 ⟨t.val * 128 + j.val, h⟩ a x) := by
  blk_ext! [iblk, idx t]
theorem iblk1 (c : Dev nD) (t : Fin cfg2.N) (j : Fin 128) (a : Fin 16) (x : Fin 512) (h) :
    (iblk W c 1 t : Vec Ideal S128x16x512 .bf16) (ix3 j a x) = (W c main_v46_1 : Vec Ideal S2048x16x512 .bf16) (ix3 ⟨t.val * 128 + j.val, h⟩ a x) := by
  blk_ext! [iblk, idx t]

theorem emb5 (t : Fin cfg2.N) (j : Fin 128) (a : Fin 16) (n : Fin 256) (h) :
    ((cfg2.win 5).blk t).view.emb (ix3 j a n : S128x16x256.Idx) = (ix3 ⟨t.val * 128 + j.val, h⟩ a n : S2048x16x256.Idx) := by
  funext a; apply Fin.ext; fin_cases a <;> blk_simp [idx t] <;> simp
theorem emb6 (t : Fin cfg2.N) (j : Fin 128) (a : Fin 16) (n : Fin 256) (h) :
    ((cfg2.win 6).blk t).view.emb (ix3 j a n : S128x16x256.Idx) = (ix3 ⟨t.val * 128 + j.val, h⟩ a n : S2048x16x256.Idx) := by
  funext a; apply Fin.ext; fin_cases a <;> blk_simp [idx t] <;> simp

theorem eta (y : S128x16x256.Idx) : ∃ (j : Fin 128) (a : Fin 16) (n : Fin 256), y = (ix3 j a n : S128x16x256.Idx) :=
  ⟨y 0, y 1, y 2, by funext a; fin_cases a <;> rfl⟩

theorem lt_rows (t : Fin cfg2.N) (j : Fin 128) : t.val * 128 + j.val < 2048 := by
  have h1 : t.val < 16 := t.isLt
  have := j.isLt; omega

/-- The logits at a time and a sequence, as the arrays the region finds make them. -/
def L (c : Dev nD) (s : Fin 2048) (a : Fin 16) : Fin 256 → EReal :=
  lg (fun x => (W c main_v46_0 : Vec Ideal S2048x16x512 .bf16) (ix3 s a x)) (fun x => (W c main_v46_1 : Vec Ideal S2048x16x512 .bf16) (ix3 s a x))
    (W c main_v51 : Vec Ideal S512x256 .f32) (W c main_v56 : Vec Ideal S512x256 .f32) (W c main_v61 : Vec Ideal S1x256 .f32)

theorem rows_eq (c : Dev nD) (t : Fin cfg2.N) (j : Fin 128) (a : Fin 16) :
    lg (fun x => (iblk W c 0 t : Vec Ideal S128x16x512 .bf16) (ix3 j a x)) (fun x => (iblk W c 1 t : Vec Ideal S128x16x512 .bf16) (ix3 j a x))
      (iblk W c 2 t) (iblk W c 3 t) (iblk W c 4 t) = L W c ⟨t.val * 128 + j.val, lt_rows t j⟩ a := by
  rw [iblk2, iblk3, iblk4]
  simp only [iblk0 W c t j a _ (lt_rows t j), iblk1 W c t j a _ (lt_rows t j)]
  rfl

theorem final5 (c : Dev nD) : (dat W c).arrAt 5 cfg2.N = ((fun i => L W c (i 0) (i 1) (i 2)) : Vec Ideal S2048x16x256 .f32) := by
  refine (dat W c).arrAt_eq_of_covers 5 ((fun i => L W c (i 0) (i 1) (i 2)) : Vec Ideal S2048x16x256 .f32) (by decide +kernel) fun t hf y => ?_
  obtain ⟨j, a, n, hy⟩ := eta y
  subst hy
  rw [emb5 t j a n (lt_rows t j), after2_5]
  unfold out2_5
  blk_simp
  frame_out
  rw [pay4_apply, rows_eq]
  rfl

theorem final6 (c : Dev nD) : (dat W c).arrAt 6 cfg2.N = ((fun i => soft (L W c (i 0) (i 1)) (i 2)) : Vec Ideal S2048x16x256 .f32) := by
  refine (dat W c).arrAt_eq_of_covers 6 ((fun i => soft (L W c (i 0) (i 1)) (i 2)) : Vec Ideal S2048x16x256 .f32) (by decide +kernel) fun t hf y => ?_
  obtain ⟨j, a, n, hy⟩ := eta y
  subst hy
  rw [emb6 t j a n (lt_rows t j), after2_6]
  unfold out2_6
  blk_simp
  frame_out
  rw [pay1_apply, rows_eq]
  rfl

end Cert.KernelIdeal.R2

end
-- ==== Proof.KerOut.lean ====
/- The kernel's two results are the two functions of its arguments. -/
module

public import proofs.«01_k».proof.Proof.KerIn
public import proofs.«01_k».proof.Proof.Spec
public import proofs.«01_k».proof.Proof.Value0
public import proofs.«01_k».proof.Proof.Value1
public import proofs.«01_k».proof.Proof.Value2

@[expose] public section

set_option maxRecDepth 16384

noncomputable section

namespace Cert.KernelIdeal.HostIn

open Cert.KernelIdeal Cert.KernelIdeal.Gen Cert.KernelIdeal.Run Cert.Math
open Idealize.ShloMosaic Idealize.ShloMosaic.Pointwise Idealize.ShloMosaic.TcCoe Idealize.ShloMosaic.StableHlo Idealize.ShloMosaic.Pipeline

/-! ## The combined table picks the three lookups -/

variable (A : FVec Ideal S251x128 .f32) (B C : FVec Ideal S51x128 .f32)

theorem tab_word (w : ℕ) (hw : w ≤ 250) (q : Fin 384) : tab A B C (ix2 ⟨w, by omega⟩ q) = if h : q.val < 128 then A (ix2 ⟨w, by omega⟩ ⟨q.val, h⟩) else 0 := by
  rw [tab_apply, dif_neg (by dsimp only; omega), dif_neg (by dsimp only; omega)]
  by_cases h : q.val < 128
  · rw [dif_pos (by dsimp only; omega), dif_pos h]
    rfl
  · rw [dif_neg (by dsimp only; omega), dif_neg h]

theorem tab_dep (d : ℕ) (hd : d ≤ 50) (q : Fin 384) :
    tab A B C (ix2 ⟨256 + d, by omega⟩ q) = if h : 128 ≤ q.val ∧ q.val - 128 < 128 then B (ix2 ⟨d, by omega⟩ ⟨q.val - 128, h.2⟩) else 0 := by
  rw [tab_apply, dif_neg (by dsimp only; omega)]
  by_cases h : 128 ≤ q.val ∧ q.val - 128 < 128
  · rw [dif_pos (by dsimp only; omega), dif_pos h]
    exact congrArg B (congrArg (fun t => ix2 t _) (Fin.ext (by dsimp only; omega)))
  · rw [dif_neg (by dsimp only; omega), dif_neg (by dsimp only; omega), dif_neg h]

theorem tab_pos (p : ℕ) (hp : p ≤ 50) (q : Fin 384) :
    tab A B C (ix2 ⟨384 + p, by omega⟩ q) = if h : 256 ≤ q.val then C (ix2 ⟨p, by omega⟩ ⟨q.val - 128 - 128, by omega⟩) else 0 := by
  rw [tab_apply]
  by_cases h : 256 ≤ q.val
  · rw [dif_pos (by dsimp only; omega), dif_pos h]
    exact congrArg C (congrArg₂ ix2 (Fin.ext (by dsimp only; omega)) (Fin.ext (by dsimp only; omega)))
  · rw [dif_neg (by dsimp only; omega), dif_neg (by dsimp only; omega), dif_neg (by dsimp only; omega), dif_neg h]

/-- The one-hot row times the combined table is the row of the embedded sequence. -/
theorem pick_emb {P : Args} (h : P.Ok) (a : Fin 16) (s : Fin 2048) (q : Fin 384) :
    pick (P.ids (ix2 a s)) (P.deps (ix2 a s)) (P.poss (ix2 a s)) (fun k q => tab P.words P.depT P.posT (ix2 k q)) q = Args.emb h a s q := by
  rw [pick_eq _ _ _ (h.ids _) (h.deps _) (h.poss _)]
  rw [tab_word _ _ _ _ (h.ids _), tab_dep _ _ _ _ (h.deps _), tab_pos _ _ _ _ (h.poss _)]
  unfold Args.emb
  by_cases e : q.val < 128
  · rw [dif_pos e, dif_pos e, dif_neg (by omega), dif_neg (by omega), add_zero, add_zero]
  · rw [dif_neg e, dif_neg e, zero_add]
    by_cases e' : q.val - 128 < 128
    · rw [dif_pos e', dif_pos ⟨by omega, e'⟩, dif_neg (by omega), add_zero]
    · rw [dif_neg e', dif_neg (fun x => e' x.2), dif_pos (by omega), zero_add]

theorem pick_congr {w w' d d' p p' : BitVec 32} (e : Fin 512 → Fin 384 → EReal) (q : Fin 384) (hw : w = w') (hd : d = d') (hp : p = p') : pick w d p e q = pick w' d' p' e q := by
  subst hw hd hp
  rfl

/-! ## The buffers between the regions -/

variable (m : (ℓ : Loc nD τ sig) → Buf (Elt Ideal) ℓ) (c : Dev nD)

/-- The arguments as launched. -/
def args : Args where
  ids := m (c.tc.loc main_arg0)
  deps := m (c.tc.loc main_arg1)
  poss := m (c.tc.loc main_arg2)
  init := m (c.tc.loc main_arg4)
  words := m (c.tc.loc main_arg5)
  depT := m (c.tc.loc main_arg6)
  posT := m (c.tc.loc main_arg7)
  wF := m (c.tc.loc main_arg8)
  uF := m (c.tc.loc main_arg9)
  bF := m (c.tc.loc main_arg10)
  cF := m (c.tc.loc main_arg11)
  wB := m (c.tc.loc main_arg12)
  uB := m (c.tc.loc main_arg13)
  bB := m (c.tc.loc main_arg14)
  cB := m (c.tc.loc main_arg15)
  wL := m (c.tc.loc main_arg16)
  bL := m (c.tc.loc main_arg17)

theorem U2_41_0 : U2 m c main_v41_0 = R0.G11 (U1 m) c :=
  (afterRegion_arr (R0.dat (U1 m) c) (U1 m c) winFacts0.arr_inj 11).trans (R0.final11 (U1 m) c)
theorem U2_41_1 : U2 m c main_v41_1 = R0.G12 (U1 m) c :=
  (afterRegion_arr (R0.dat (U1 m) c) (U1 m c) winFacts0.arr_inj 12).trans (R0.final12 (U1 m) c)

variable {m c} (h : (args m c).Ok)

/-- The forward input products. -/
theorem v41_0_apply (s : Fin 2048) (a : Fin 16) (n : Fin 512) : (U3 m c main_v41_0 : Vec Ideal S2048x16x512 .f32) (ix3 s a n) = Args.inF h s.val a n := by
  rw [U3_of m c main_v41_0 (by decide), U2_41_0]
  unfold R0.G11 U1
  rw [s0_v0, s0_v1, s0_v2, s0_v27, s0_v29, s0_v36, proj3_eq]
  unfold Args.inF
  rw [dif_pos s.isLt]
  refine congrArg₂ (· + ·) (Finset.sum_congr rfl fun q _ => congrArg₂ (· * ·) ?_ (wih_apply (args m c).wF q n)) (row1_apply (args m c).bF 0 n)
  refine Eq.trans ?_ (pick_emb h a s q)
  exact pick_congr _ q (idsF_apply (args m c).ids s a) (idsF_apply (args m c).deps s a) (idsF_apply (args m c).poss s a)

/-- The backward input products of the first 2046 rows. -/
theorem v41_1_apply (s : Fin 2048) (hs : s.val < 2046) (a : Fin 16) (n : Fin 512) :
    (U3 m c main_v41_1 : Vec Ideal S2048x16x512 .f32) (ix3 s a n) = Args.inB h (2045 - s.val) a n := by
  rw [U3_of m c main_v41_1 (by decide), U2_41_1]
  unfold R0.G12 U1
  rw [s0_v5, s0_v8, s0_v11, s0_v27, s0_v31, s0_v37, proj3_eq]
  unfold Args.inB
  rw [dif_pos (by omega)]
  refine congrArg₂ (· + ·) (Finset.sum_congr rfl fun q _ => congrArg₂ (· * ·) ?_ (wih_apply (args m c).wB q n)) (row1_apply (args m c).bB 0 n)
  have e : (⟨2047 - (2045 - s.val), by omega⟩ : Fin 2048) = ⟨s.val + 2, by omega⟩ := Fin.ext (by dsimp only; omega)
  rw [e]
  refine Eq.trans ?_ (pick_emb h a ⟨s.val + 2, by omega⟩ q)
  exact pick_congr _ q (idsB_apply (args m c).ids s a hs) (idsB_apply (args m c).deps s a hs) (idsB_apply (args m c).poss s a hs)

theorem u33 : U3 m c main_v33 = whh (args m c).uF := by
  rw [U3_of m c main_v33 (by decide), U2_of m c main_v33 (by decide)]
  exact s0_v33 _
theorem u35 : U3 m c main_v35 = whh (args m c).uB := by
  rw [U3_of m c main_v35 (by decide), U2_of m c main_v35 (by decide)]
  exact s0_v35 _
theorem u38 : U3 m c main_v38 = row1 (args m c).cF := by
  rw [U3_of m c main_v38 (by decide), U2_of m c main_v38 (by decide)]
  exact s0_v38 _
theorem u39 : U3 m c main_v39 = row1 (args m c).cB := by
  rw [U3_of m c main_v39 (by decide), U2_of m c main_v39 (by decide)]
  exact s0_v39 _
theorem u40 : U2 m c main_v40 = (args m c).init := by
  rw [U2_of m c main_v40 (by decide)]
  exact s0_v40 _
theorem u43 : U3 m c main_v43 = half0 (args m c).init := (s1_v43 _).trans (congrArg half0 u40)
theorem u45 : U3 m c main_v45 = half1 (args m c).init := (s1_v45 _).trans (congrArg half1 u40)

/-- The forward states. -/
theorem HF_eq (n : ℕ) (hn : n ≤ 2048) : R1.HF (U3 m) c n = Args.stF h n := by
  unfold R1.HF Args.stF
  rw [u33, u38, u43]
  refine states_congr n (fun s hs => ?_) (funext fun k => funext fun j => whh_apply _ k j) (funext fun j => row1_apply _ 0 j) (funext fun a => funext fun j => half0_apply _ a j)
  funext a j
  unfold R1.XF
  rw [dif_pos (by omega)]
  exact v41_0_apply h ⟨s, by omega⟩ a j

/-- The backward states. -/
theorem HB_eq (n : ℕ) (hn : n ≤ 2045) : R1.HB (U3 m) c (n + 3) = Args.stB h (n + 1) := by
  unfold R1.HB Args.stB
  rw [u35, u39, u45]
  refine (lateStates_eq _ _ _ _ n).trans ?_
  refine states_congr (n + 1) (fun s hs => ?_) (funext fun k => funext fun j => whh_apply _ k j) (funext fun j => row1_apply _ 0 j) (funext fun a => funext fun j => half1_apply _ a j)
  funext a j
  unfold R1.XB
  refine (v41_1_apply h ⟨2047 - (s + 2), by omega⟩ (by dsimp only; omega) a j).trans ?_
  exact congrArg (fun t => Args.inB h t a j) (by dsimp only; omega)

variable (m c) in
theorem U4_46_0 : U4 m c main_v46_0 = (fun i => R1.HF (U3 m) c ((i 0).val + 1) (i 1) (i 2) : Vec Ideal S2048x16x512 .bf16) :=
  (afterRegion_arr (R1.dat (U3 m) c) (U3 m c) winFacts1.arr_inj 8).trans (R1.final8 (U3 m) c)
variable (m c) in
theorem U4_46_1 : U4 m c main_v46_1 = (fun i => R1.HB (U3 m) c (2048 - (i 0).val) (i 1) (i 2) : Vec Ideal S2048x16x512 .bf16) :=
  (afterRegion_arr (R1.dat (U3 m) c) (U3 m c) winFacts1.arr_inj 9).trans (R1.final9 (U3 m) c)

theorem kept (r : Ref sig .tc) (h0 : r ∉ hostOps0_W) (h1 : r ∉ hostOps1_W)
    (k0 : ∀ w, Pipeline.arrRef spec0 w = r → (spec0 w).isOut = false) (k1 : ∀ w, Pipeline.arrRef spec1 w = r → (spec1 w).isOut = false) :
    U4 m c r = m (c.tc.loc r) :=
  (U4_of m c r k1).trans <| (U3_of m c r h1).trans <| (U2_of m c r k0).trans <| (U1_of m c r h0).trans rfl

theorem u51 : U5 m c main_v51 = pad0 (args m c).wL := (s2_v51 _).trans (congrArg pad0 (kept main_arg16 (by decide) (by decide) (by decide) (by decide)))
theorem u56 : U5 m c main_v56 = pad1 (args m c).wL := (s2_v56 _).trans (congrArg pad1 (kept main_arg16 (by decide) (by decide) (by decide) (by decide)))
theorem u61 : U5 m c main_v61 = padB (U5 m c main_v57) (args m c).bL :=
  (s2_v61 _).trans (congrArg (padB _) (kept main_arg17 (by decide) (by decide) (by decide) (by decide)))

theorem u46_0 (s : Fin 2048) (a : Fin 16) (x : Fin 512) : (U5 m c main_v46_0 : Vec Ideal S2048x16x512 .bf16) (ix3 s a x) = Args.stF h (s.val + 1) a x := by
  rw [U5_of m c main_v46_0 (by decide), U4_46_0]
  exact congrFun (congrFun (HF_eq h (s.val + 1) (by omega)) a) x

theorem u46_1 (s : Fin 2048) (hs : s.val < 2046) (a : Fin 16) (x : Fin 512) :
    (U5 m c main_v46_1 : Vec Ideal S2048x16x512 .bf16) (ix3 s a x) = Args.stB h (2045 - s.val + 1) a x := by
  rw [U5_of m c main_v46_1 (by decide), U4_46_1]
  refine Eq.trans ?_ (congrFun (congrFun (HB_eq h (2045 - s.val) (by omega)) a) x)
  exact congrArg (fun t => R1.HB (U3 m) c t a x) (by show 2048 - s.val = _; omega)

/-- The padded values of one row, -/
theorem L_in (a : Fin 16) (l : Fin 2046) (n : Fin 256) (hn : n.val < 251) : R2.L (U5 m) c ⟨l.val, by omega⟩ a n = Args.out0 h a l ⟨n.val, hn⟩ := by
  unfold R2.L R2.lg Args.out0
  rw [u51, u56, u61, if_pos hn, padB_apply _ _ _ hn, funext fun x => u46_0 h ⟨l.val, by omega⟩ a x, funext fun x => u46_1 h ⟨l.val, by omega⟩ l.isLt a x,
    funext fun x => (pad0_apply (args m c).wL x n).trans (dif_pos hn), funext fun x => (pad1_apply (args m c).wL x n).trans (dif_pos hn)]

/-- and its five padding columns. -/
theorem L_out (a : Fin 16) (l : Fin 2046) (n : Fin 256) (hn : 251 ≤ n.val) : R2.L (U5 m) c ⟨l.val, by omega⟩ a n = ⊥ := by
  unfold R2.L R2.lg logit
  rw [if_neg (by omega), EReal.add_bot]

variable (m c) in
theorem U6_62_0 : U6 m c main_v62_0 = (fun i => R2.L (U5 m) c (i 0) (i 1) (i 2) : Vec Ideal S2048x16x256 .f32) :=
  (afterRegion_arr (R2.dat (U5 m) c) (U5 m c) winFacts2.arr_inj 5).trans (R2.final5 (U5 m) c)
variable (m c) in
theorem U6_62_1 : U6 m c main_v62_1 = (fun i => soft (R2.L (U5 m) c (i 0) (i 1)) (i 2) : Vec Ideal S2048x16x256 .f32) :=
  (afterRegion_arr (R2.dat (U5 m) c) (U5 m c) winFacts2.arr_inj 6).trans (R2.final6 (U5 m) c)

/-- The first result. -/
theorem out64_apply (a : Fin 16) (l : Fin 2046) (n : Fin 251) : (U7 m c main_v64 : FVec Ideal S16x2046x251 .f32) (ix3 a l n) = Args.out0 h a l n := by
  unfold U7
  rw [s3_v64]
  refine (cut_apply _ a l n).trans ?_
  rw [U6_62_0]
  exact L_in h a l ⟨n.val, by omega⟩ n.isLt

/-- The second result. -/
theorem out66_apply (a : Fin 16) (l : Fin 2046) (n : Fin 251) : (U7 m c main_v66 : FVec Ideal S16x2046x251 .f32) (ix3 a l n) = Args.out1 h a l n := by
  unfold U7
  rw [s3_v66]
  refine (cut_apply _ a l n).trans ?_
  rw [U6_62_1]
  refine (soft_pad (R2.L (U5 m) c ⟨l.val, by omega⟩ a) (fun n hn => L_out a l n hn) (fun n hn => by rw [L_in h a l n hn]; exact Args.real_out0 h a l _) n).trans ?_
  have e : (fun x : Fin 251 => R2.L (U5 m) c ⟨l.val, by omega⟩ a ⟨x.val, by omega⟩) = fun x => Args.out0 h a l x := funext fun x => L_in h a l ⟨x.val, by omega⟩ x.isLt
  unfold Args.out1
  rw [e, L_in h a l ⟨n.val, by omega⟩ n.isLt]
  exact congrArg (Ideal.div _) (Finset.sum_congr rfl fun x _ => by rw [L_in h a l ⟨x.val, by omega⟩ x.isLt])

end Cert.KernelIdeal.HostIn

end
-- ==== Proof.RefLoop.lean ====
/- The reference's loop: what its carried buffers hold after each number of trips. -/
module

public import proofs.«01_k».proof.Proof.Gen.ReferenceIdeal.Run
public import proofs.«01_k».proof.Proof.Math
public import Idealize.ShloMosaic.Lib.Pointwise
public import Idealize.ShloMosaic.Lib.WordCmp

@[expose] public section

set_option maxRecDepth 16384

noncomputable section

namespace Cert.ReferenceIdeal.Loop

open Cert.ReferenceIdeal Cert.ReferenceIdeal.Gen Cert.ReferenceIdeal.Value Cert.Math
open Idealize.ShloMosaic Idealize.ShloMosaic.Pointwise Idealize.ShloMosaic.TcCoe

variable (V : Valuation τ sig (Elt Ideal))

/-- The rows of a direction's input product. -/
def prod (xs : Vec Ideal S2048x16x384 .f32) (w : Vec Ideal S512x384 .f32) (b : Vec Ideal S512 .f32) (s : ℕ) (a : Fin 16) (n : Fin 512) : EReal :=
  if h : s < 2048 then (∑ q : Fin 384, xs (ix3 ⟨s, h⟩ a q) * w (ix2 n q)) + b (ix1 n) else 0

theorem iv_toInt : ∀ k : Fin 2048, (Scf.iv 0#32 1#32 k.val).toInt = (k.val : ℤ) := by decide +kernel

theorem slices_x (k : ℕ) (hk : k < 2048) : S2048x16x384.Slices ![k, 0, 0] S1x16x384 := by
  refine ⟨rfl, fun a => ?_⟩
  fin_cases a
  · show k + 1 ≤ 2048; omega
  · show 0 + 16 ≤ 16; omega
  · show 0 + 384 ≤ 384; omega

theorem slices_y (k : ℕ) (hk : k < 2048) : S2048x16x512.Slices ![k, 0, 0] S1x16x512 := by
  refine ⟨rfl, fun a => ?_⟩
  fin_cases a
  · show k + 1 ≤ 2048; omega
  · show 0 + 16 ≤ 16; omega
  · show 0 + 512 ≤ 512; omega

/-- The rows a trip reads and writes begin at the counter. -/
theorem start_eq (k : ℕ) (hk : k < 2048) (hc : V main_v13_10 = fun _ => (Scf.iv 0#32 1#32 k : BitVec 32)) (a : Fin 3) :
    ((((![V main_v13_10, constantI S_ 32 0#32, constantI S_ 32 0#32] : Fin 3 → (⟨S_, .i32⟩ : BufTy).Contents (Elt Ideal))) a (Shape.Idx.first h_S_)).toInt : ℤ)
      = ((![k, 0, 0] : Fin 3 → ℕ) a : ℤ) := by
  fin_cases a <;> simp [hc, iv_toInt ⟨k, hk⟩] <;> rfl

/-- What a trip computes for the forward direction, -/
theorem res50 (k : ℕ) (hk : k < 2048) (hc : V main_v13_10 = fun _ => (Scf.iv 0#32 1#32 k : BitVec 32)) (a : Fin 16) (n : Fin 512) :
    (res_main_while0b_v50 V : Vec Ideal S16x512 .f32) (ix2 a n)
      = cell (prod (V main_v13_0) (V main_v13_2) (V main_v13_3) k) (fun q n => (V main_v13_4 : Vec Ideal S512x512 .f32) (ix2 n q))
          (fun n => (V main_v13_5 : Vec Ideal S512 .f32) (ix1 n)) (fun a n => (V main_v13_11 : Vec Ideal S16x512 .f32) (ix2 a n)) a n := by
  unfold res_main_while0b_v50
  rw [WordCmp.dynamicSlice_eq_extract _ _ _ _ ![k, 0, 0] (slices_x k hk) (start_eq V k hk hc)]
  unfold cell prod
  rw [dif_pos hk]
  pointwise []

/-- and for the backward one. -/
theorem res62 (k : ℕ) (hk : k < 2048) (hc : V main_v13_10 = fun _ => (Scf.iv 0#32 1#32 k : BitVec 32)) (a : Fin 16) (n : Fin 512) :
    (res_main_while0b_v62 V : Vec Ideal S16x512 .f32) (ix2 a n)
      = cell (prod (V main_v13_1) (V main_v13_6) (V main_v13_7) k) (fun q n => (V main_v13_8 : Vec Ideal S512x512 .f32) (ix2 n q))
          (fun n => (V main_v13_9 : Vec Ideal S512 .f32) (ix1 n)) (fun a n => (V main_v13_12 : Vec Ideal S16x512 .f32) (ix2 a n)) a n := by
  unfold res_main_while0b_v62
  rw [WordCmp.dynamicSlice_eq_extract _ _ _ _ ![k, 0, 0] (slices_x k hk) (start_eq V k hk hc)]
  unfold cell prod
  rw [dif_pos hk]
  pointwise []

/-- Storing a row of a direction's states. -/
theorem store_row (k : ℕ) (hk : k < 2048) (hc : V main_v13_10 = fun _ => (Scf.iv 0#32 1#32 k : BitVec 32)) (x : Vec Ideal S2048x16x512 .f32) (u : Vec Ideal S16x512 .f32)
    (s : Fin 2048) (a : Fin 16) (n : Fin 512) :
    Host.dynamicUpdateSlice x (broadcastInDim S1x16x512 ![1, 2] bcast_S16x512_S1x16x512_1_2 u)
        (fun a => (((![V main_v13_10, constantI S_ 32 0#32, constantI S_ 32 0#32] : Fin 3 → (⟨S_, .i32⟩ : BufTy).Contents (Elt Ideal))) a (Shape.Idx.first h_S_)).toInt)
        updateFits_S2048x16x512_S1x16x512 (ix3 s a n)
      = if s.val = k then u (ix2 a n) else x (ix3 s a n) := by
  rw [WordCmp.dynamicUpdateSlice_eq_update _ _ _ _ ![k, 0, 0] (slices_y k hk) (start_eq V k hk hc)]
  unfold updateSlice
  by_cases hs : s.val = k
  · rw [if_pos hs, dif_pos (by
      intro d
      fin_cases d
      · exact ⟨hs.ge, by show s.val < k + 1; omega⟩
      · exact ⟨Nat.zero_le _, by show a.val < 0 + 16; omega⟩
      · exact ⟨Nat.zero_le _, by show n.val < 0 + 512; omega⟩)]
    refine Eq.trans (congrArg _ (?_ : _ = (ix3 0 a n : S1x16x512.Idx))) (by pointwise [])
    funext d
    apply Fin.ext
    fin_cases d
    · show s.val - k = 0; omega
    · rfl
    · rfl
  · rw [if_neg hs, dif_neg]
    intro h
    have h0 := h 0
    have h1 : k ≤ s.val := h0.1
    have h2 : s.val < k + 1 := h0.2
    omega

/-! ## All trips -/

/-- The carried buffers no trip writes. -/
abbrev Fixed (V V' : Valuation τ sig (Elt Ideal)) : Prop :=
  V' main_v13_0 = V main_v13_0 ∧ V' main_v13_1 = V main_v13_1 ∧ V' main_v13_2 = V main_v13_2 ∧ V' main_v13_3 = V main_v13_3 ∧ V' main_v13_4 = V main_v13_4
    ∧ V' main_v13_5 = V main_v13_5 ∧ V' main_v13_6 = V main_v13_6 ∧ V' main_v13_7 = V main_v13_7 ∧ V' main_v13_8 = V main_v13_8 ∧ V' main_v13_9 = V main_v13_9

/-- The states of the forward direction, -/
def RF : ℕ → Fin 16 → Fin 512 → EReal :=
  states (prod (V main_v13_0) (V main_v13_2) (V main_v13_3)) (fun q n => (V main_v13_4 : Vec Ideal S512x512 .f32) (ix2 n q))
    (fun n => (V main_v13_5 : Vec Ideal S512 .f32) (ix1 n)) (fun a n => (V main_v13_11 : Vec Ideal S16x512 .f32) (ix2 a n))
/-- and of the backward one. -/
def RB : ℕ → Fin 16 → Fin 512 → EReal :=
  states (prod (V main_v13_1) (V main_v13_6) (V main_v13_7)) (fun q n => (V main_v13_8 : Vec Ideal S512x512 .f32) (ix2 n q))
    (fun n => (V main_v13_9 : Vec Ideal S512 .f32) (ix1 n)) (fun a n => (V main_v13_12 : Vec Ideal S16x512 .f32) (ix2 a n))

/-- What holds before trip `k`. -/
structure Before (k : ℕ) (V' : Valuation τ sig (Elt Ideal)) : Prop where
  fixed : Fixed V V'
  ctr : V' main_v13_10 = fun _ => (Scf.iv 0#32 1#32 k : BitVec 32)
  fwd : (fun a n => (V' main_v13_11 : Vec Ideal S16x512 .f32) (ix2 a n)) = RF V k
  bwd : (fun a n => (V' main_v13_12 : Vec Ideal S16x512 .f32) (ix2 a n)) = RB V k
  outF : ∀ (s : Fin 2048) a n, s.val < k → (V' main_v13_13 : Vec Ideal S2048x16x512 .f32) (ix3 s a n) = RF V (s.val + 1) a n
  outB : ∀ (s : Fin 2048) a n, s.val < k → (V' main_v13_14 : Vec Ideal S2048x16x512 .f32) (ix3 s a n) = RB V (s.val + 1) a n

theorem iv_succ (k : ℕ) : Scalar.addi (Scf.iv 0#32 1#32 k : BitVec 32) 1#32 = Scf.iv 0#32 1#32 (k + 1) := by
  unfold Scf.iv Scalar.addi
  apply BitVec.eq_of_toNat_eq
  simp [IntOp.addi]

/-- A trip keeps it. -/
theorem Before.step {k : ℕ} (hk : k < 2048) {V' : Valuation τ sig (Elt Ideal)} (h : Before V k V') : Before V (k + 1) (STEP V') := by
  obtain ⟨⟨h0, h1, h2, h3, h4, h5, h6, h7, h8, h9⟩, hc, hf, hb, oF, oB⟩ := h
  have e50 : ∀ a n, (res_main_while0b_v50 V' : Vec Ideal S16x512 .f32) (ix2 a n) = RF V (k + 1) a n := fun a n => by
    rw [res50 V' k hk hc, hf, h0, h2, h3, h4, h5]; rfl
  have e62 : ∀ a n, (res_main_while0b_v62 V' : Vec Ideal S16x512 .f32) (ix2 a n) = RB V (k + 1) a n := fun a n => by
    rw [res62 V' k hk hc, hb, h1, h6, h7, h8, h9]; rfl
  refine ⟨⟨(STEP_main_v13_0 V').trans h0, (STEP_main_v13_1 V').trans h1, (STEP_main_v13_2 V').trans h2, (STEP_main_v13_3 V').trans h3, (STEP_main_v13_4 V').trans h4,
    (STEP_main_v13_5 V').trans h5, (STEP_main_v13_6 V').trans h6, (STEP_main_v13_7 V').trans h7, (STEP_main_v13_8 V').trans h8, (STEP_main_v13_9 V').trans h9⟩, ?_, ?_, ?_, ?_, ?_⟩
  · refine (STEP_main_v13_10 V').trans ?_
    unfold step_main_v13_10
    rw [hc]
    funext i
    exact iv_succ k
  · funext a n
    exact (congrFun (STEP_main_v13_11 V') (ix2 a n)).trans (e50 a n)
  · funext a n
    exact (congrFun (STEP_main_v13_12 V') (ix2 a n)).trans (e62 a n)
  · intro s a n hs
    refine (congrFun (STEP_main_v13_13 V') (ix3 s a n)).trans ?_
    refine (store_row V' k hk hc _ _ s a n).trans ?_
    by_cases e : s.val = k
    · rw [if_pos e, e50, e]
    · rw [if_neg e]; exact oF s a n (by omega)
  · intro s a n hs
    refine (congrFun (STEP_main_v13_14 V') (ix3 s a n)).trans ?_
    refine (store_row V' k hk hc _ _ s a n).trans ?_
    by_cases e : s.val = k
    · rw [if_pos e, e62, e]
    · rw [if_neg e]; exact oB s a n (by omega)

/-- What holds before each trip, from contents whose counter is zero. -/
theorem before (hc : V main_v13_10 = fun _ => (0#32 : BitVec 32)) (k : ℕ) (hk : k ≤ 2048) : Before V k (STEP^[k] V) := by
  induction k with
  | zero => exact ⟨⟨rfl, rfl, rfl, rfl, rfl, rfl, rfl, rfl, rfl, rfl⟩, by rw [Scf.iv_zero]; exact hc, rfl, rfl, fun _ _ _ h => absurd h (Nat.not_lt_zero _),
      fun _ _ _ h => absurd h (Nat.not_lt_zero _)⟩
  | succ k ih =>
    rw [Function.iterate_succ_apply']
    exact (ih (by omega)).step V (by omega)

end Cert.ReferenceIdeal.Loop

end
-- ==== Proof.RefIn.lean ====
/- What the reference's carried buffers hold when its loop begins. -/
module

public import proofs.«01_k».proof.Proof.RefLoop
public import Idealize.ShloMosaic.Lib.ReduceAll
public import Idealize.ShloMosaic.Lib.Affine
public import Idealize.ShloMosaic.Lib.Pointwise

@[expose] public section

set_option maxRecDepth 16384

noncomputable section

namespace Cert.ReferenceIdeal.Loop

open Cert.ReferenceIdeal Cert.ReferenceIdeal.Gen Cert.ReferenceIdeal.Value Cert.Math
open Idealize.ShloMosaic Idealize.ShloMosaic.Pointwise Idealize.ShloMosaic.TcCoe Idealize.ShloMosaic.StableHlo

/-! ## The table lookups -/

/-- The index column of a lookup: a negative id counts from the table's end. -/
def colR (n : BitVec 32) (ids : IVec S16x2048 32) : IVec S16x2048x1 32 :=
  broadcastInDim S16x2048x1 ![0, 1] bcast_S16x2048_S16x2048x1_0_1
    (select (cmpi .slt ids (broadcastInDim S16x2048 ![] bcast_S_S16x2048 (constantI S_ 32 0#32))) (addi ids (broadcastInDim S16x2048 ![] bcast_S_S16x2048 (constantI S_ 32 n))) ids)

/-- Which lookups are in the table. -/
def okR (last : BitVec 32) (col : IVec S16x2048x1 32) : IVec S16x2048 1 :=
  Host.reduce IntOp.andi
    (andi (cmpi .sge col (broadcastInDim S16x2048x1 ![] bcast_S_S16x2048x1 (constantI S_ 32 0#32)))
      (cmpi .sle col (broadcastInDim S16x2048x1 ![0, 1, 2] bcast_S1x1x1_S16x2048x1_0_1_2 (broadcastInDim S1x1x1 ![2] bcast_S1_S1x1x1_2 (constantI S1 32 last)))))
    (constantI S_ 1 1#1) reducesTo_S16x2048x1_S16x2048_d2 h_S_

/-- The filled lookup. -/
def fillR (ok : IVec S16x2048 1) (rows : FVec Ideal S16x2048x128 .f32) : FVec Ideal S16x2048x128 .f32 :=
  select (broadcastInDim S16x2048x128 ![0, 1] bcast_S16x2048_S16x2048x128_0_1 ok) rows (broadcastInDim S16x2048x128 ![] bcast_S_S16x2048x128 (constant S_ .f32 0x7FC00000#32))

theorem fillR_apply (ok : IVec S16x2048 1) (rows : FVec Ideal S16x2048x128 .f32) (a : Fin 16) (s : Fin 2048) (q : Fin 128) (h : ok (ix2 a s) = 1#1) :
    fillR ok rows (ix3 a s q) = rows (ix3 a s q) := by
  pointwise [fillR]
  rw [h]
  rfl

theorem colR_apply (n : BitVec 32) (ids : IVec S16x2048 32) (a : Fin 16) (s : Fin 2048) (u : Fin 1) (h : (ids (ix2 a s)).toNat ≤ 250) :
    colR n ids (ix3 a s u) = ids (ix2 a s) := by
  pointwise [colR]
  have hs : IntOp.cmpi CmpIPredicate.slt (ids (ix2 a s)) 0#32 = 0#1 := by
    have e : ¬ IntOp.cmpi CmpIPredicate.slt (ids (ix2 a s)) 0#32 = 1#1 := by
      rw [IntOp.cmpi_slt, BitVec.toInt_eq_toNat_cond, if_pos (by omega)]
      show ¬ ((ids (ix2 a s)).toNat : ℤ) < 0
      omega
    generalize IntOp.cmpi CmpIPredicate.slt (ids (ix2 a s)) 0#32 = b at e
    revert b; decide
  rw [hs]
  rfl

theorem toInt_small (w : BitVec 32) (h : w.toNat ≤ 250) : w.toInt.toNat = w.toNat := by
  rw [BitVec.toInt_eq_toNat_cond, if_pos (by omega)]
  rfl

theorem gatherW_apply (x : FVec Ideal S251x128 .f32) (col : IVec S16x2048x1 32) (a : Fin 16) (s : Fin 2048) (q : Fin 128) (h : (col (ix3 a s 0)).toNat ≤ 250) :
    Host.gather gather_S251x128_S16x2048x1_S16x2048x128_2_0_n_n_0_2_1128 x col (ix3 a s q) = x (ix2 ⟨(col (ix3 a s 0)).toNat, by omega⟩ q) := by
  unfold Host.gather
  refine congrArg x (funext fun d => Fin.ext ?_)
  have e := toInt_small _ h
  fin_cases d
  · have hi : ∀ k, gather_S251x128_S16x2048x1_S16x2048x128_2_0_n_n_0_2_1128.siIdx (ix3 a s q) k = ix3 a s 0 := by
      intro k
      funext b
      apply Fin.ext
      fin_cases k
      fin_cases b <;> rfl
    show gather_S251x128_S16x2048x1_S16x2048x128_2_0_n_n_0_2_1128.start (ix3 a s q) col 0 + 0 + 0 = (col (ix3 a s 0)).toNat
    unfold GatherDims.start
    rw [dif_pos (by decide), hi, e]
    show min (col (ix3 a s 0)).toNat (251 - 1) + 0 + 0 = _
    omega
  · show 0 + 0 + q.val = q.val
    omega

theorem gatherT_apply (x : FVec Ideal S51x128 .f32) (col : IVec S16x2048x1 32) (a : Fin 16) (s : Fin 2048) (q : Fin 128) (h : (col (ix3 a s 0)).toNat ≤ 50) :
    Host.gather gather_S51x128_S16x2048x1_S16x2048x128_2_0_n_n_0_2_1128 x col (ix3 a s q) = x (ix2 ⟨(col (ix3 a s 0)).toNat, by omega⟩ q) := by
  unfold Host.gather
  refine congrArg x (funext fun d => Fin.ext ?_)
  have e := toInt_small _ (h.trans (by omega))
  fin_cases d
  · have hi : ∀ k, gather_S51x128_S16x2048x1_S16x2048x128_2_0_n_n_0_2_1128.siIdx (ix3 a s q) k = ix3 a s 0 := by
      intro k
      funext b
      apply Fin.ext
      fin_cases k
      fin_cases b <;> rfl
    show gather_S51x128_S16x2048x1_S16x2048x128_2_0_n_n_0_2_1128.start (ix3 a s q) col 0 + 0 + 0 = (col (ix3 a s 0)).toNat
    unfold GatherDims.start
    rw [dif_pos (by decide), hi, e]
    show min (col (ix3 a s 0)).toNat (51 - 1) + 0 + 0 = _
    omega
  · show 0 + 0 + q.val = q.val
    omega

theorem okR_apply (last : BitVec 32) (col : IVec S16x2048x1 32) (hl : last.toNat ≤ 250) (h : ∀ i, (col i).toNat ≤ last.toNat) (a : Fin 16) (s : Fin 2048) :
    okR last col (ix2 a s) = 1#1 := by
  have ti : ∀ w : BitVec 32, w.toNat ≤ 250 → w.toInt = (w.toNat : ℤ) := fun w hw => by
    rw [BitVec.toInt_eq_toNat_cond, if_pos (by omega)]
  unfold okR
  refine Host.reduce_andi_one _ _ _ _ _ rfl (fun i => ?_)
  have h1 : IntOp.cmpi CmpIPredicate.sge (col i) 0#32 = 1#1 := by
    rw [IntOp.cmpi_sge, ti _ ((h i).trans hl), ti 0#32 (by decide)]
    exact_mod_cast Nat.zero_le _
  have h2 : IntOp.cmpi CmpIPredicate.sle (col i) last = 1#1 := by
    rw [IntOp.cmpi_sle, ti _ ((h i).trans hl), ti _ hl]
    exact_mod_cast h i
  show IntOp.andi (IntOp.cmpi CmpIPredicate.sge (col i) 0#32) (IntOp.cmpi CmpIPredicate.sle (col i) last) = 1#1
  rw [h1, h2]
  decide

/-- The word lookup. -/
def takeW (ids : IVec S16x2048 32) (x : FVec Ideal S251x128 .f32) : FVec Ideal S16x2048x128 .f32 :=
  fillR (okR 250#32 (colR 251#32 ids)) (Host.gather gather_S251x128_S16x2048x1_S16x2048x128_2_0_n_n_0_2_1128 x (colR 251#32 ids))

/-- The dependency and position lookup. -/
def takeT (ids : IVec S16x2048 32) (x : FVec Ideal S51x128 .f32) : FVec Ideal S16x2048x128 .f32 :=
  fillR (okR 50#32 (colR 51#32 ids)) (Host.gather gather_S51x128_S16x2048x1_S16x2048x128_2_0_n_n_0_2_1128 x (colR 51#32 ids))

theorem takeW_apply (ids : IVec S16x2048 32) (x : FVec Ideal S251x128 .f32) (h : ∀ i, (ids i).toNat ≤ 250) (a : Fin 16) (s : Fin 2048) (q : Fin 128) :
    takeW ids x (ix3 a s q) = x (ix2 ⟨(ids (ix2 a s)).toNat, Nat.lt_succ_of_le (h _)⟩ q) := by
  have hc : ∀ a s u, colR 251#32 ids (ix3 a s u) = ids (ix2 a s) := fun a s u => colR_apply _ _ _ _ _ (h _)
  unfold takeW
  rw [fillR_apply _ _ _ _ _ (okR_apply _ _ (by decide) (fun i => by rw [← ix3_eta i]; exact (congrArg BitVec.toNat (hc (i 0) (i 1) (i 2))).le.trans (h _)) a s),
    gatherW_apply _ _ _ _ _ (by rw [hc]; exact h _)]
  refine congrArg x (congrArg (fun t => ix2 t q) (Fin.ext ?_))
  show (colR 251#32 ids (ix3 a s 0)).toNat = _
  rw [hc]

theorem takeT_apply (ids : IVec S16x2048 32) (x : FVec Ideal S51x128 .f32) (h : ∀ i, (ids i).toNat ≤ 50) (a : Fin 16) (s : Fin 2048) (q : Fin 128) :
    takeT ids x (ix3 a s q) = x (ix2 ⟨(ids (ix2 a s)).toNat, Nat.lt_succ_of_le (h _)⟩ q) := by
  have hc : ∀ a s u, colR 51#32 ids (ix3 a s u) = ids (ix2 a s) := fun a s u => colR_apply _ _ _ _ _ ((h _).trans (by decide))
  unfold takeT
  rw [fillR_apply _ _ _ _ _ (okR_apply _ _ (by decide) (fun i => by rw [← ix3_eta i]; exact (congrArg BitVec.toNat (hc (i 0) (i 1) (i 2))).le.trans (h _)) a s),
    gatherT_apply _ _ _ _ _ (by rw [hc]; exact h _)]
  refine congrArg x (congrArg (fun t => ix2 t q) (Fin.ext ?_))
  show (colR 51#32 ids (ix3 a s 0)).toNat = _
  rw [hc]

/-! ## The sequences fed to the two directions -/

/-- The three lookups side by side. -/
def seqR (A B C : FVec Ideal S16x2048x128 .f32) : FVec Ideal S16x2048x384 .f32 :=
  concatenate S16x2048x384 2 [⟨S16x2048x128, A⟩, ⟨S16x2048x128, B⟩, ⟨S16x2048x128, C⟩] concatenates_S16x2048x128_S16x2048x128_S16x2048x128_S16x2048x384_d2

/-- The sequence, time first. -/
def fwdR (X : FVec Ideal S16x2048x384 .f32) : FVec Ideal S2048x16x384 .f32 :=
  transpose S2048x16x384 [1, 0, 2] X transposes_S16x2048x384_S2048x16x384_1_0_2

/-- The sequence from its end, time first. -/
def bwdR (X : FVec Ideal S16x2048x384 .f32) : FVec Ideal S2048x16x384 .f32 :=
  transpose S2048x16x384 [1, 0, 2] (Host.reverse [1] X) transposes_S16x2048x384_S2048x16x384_1_0_2

theorem fwdR_apply (X : FVec Ideal S16x2048x384 .f32) (s : Fin 2048) (a : Fin 16) (q : Fin 384) : fwdR X (ix3 s a q) = X (ix3 a s q) := by
  pointwise [fwdR]

theorem bwdR_apply (X : FVec Ideal S16x2048x384 .f32) (s : Fin 2048) (a : Fin 16) (q : Fin 384) :
    bwdR X (ix3 s a q) = X (ix3 a ⟨2047 - s.val, by omega⟩ q) := by
  pointwise [bwdR]
  show X (ix3 a s.rev q) = _
  exact congrArg X (congrArg (fun t => ix3 a t q) (Fin.ext (by show 2048 - (s.val + 1) = 2047 - s.val; omega)))

theorem seqR_apply (A B C : FVec Ideal S16x2048x128 .f32) (a : Fin 16) (s : Fin 2048) (q : Fin 384) :
    seqR A B C (ix3 a s q) = if h : q.val < 128 then A (ix3 a s ⟨q.val, h⟩) else if h' : q.val - 128 < 128 then B (ix3 a s ⟨q.val - 128, h'⟩) else C (ix3 a s ⟨q.val - 128 - 128, by omega⟩) := by
  pointwise [seqR]

/-! ## The contents at the loop's entry -/

variable (m : (ℓ : Loc nD τ sig) → Buf (Elt Ideal) ℓ) (c : Dev nD)

theorem keep0 (V : Valuation τ sig (Elt Ideal)) (r : Ref sig .tc) (h : r ∉ hostOps0_W) : after hostOps0 V (Proc.devRef .tc r) = V (Proc.devRef .tc r) :=
  after_of_writes_sub hostOps0 V hostOps0_writes h

theorem keep1 (V : Valuation τ sig (Elt Ideal)) (r : Ref sig .tc) (h : r ∉ hostOps0_1_W) : after hostOps0_1 V (Proc.devRef .tc r) = V (Proc.devRef .tc r) :=
  after_of_writes_sub hostOps0_1 V hostOps0_1_writes h

theorem keep2 (V : Valuation τ sig (Elt Ideal)) (r : Ref sig .tc) (h : r ∉ hostOps0_2_W) : after hostOps0_2 V (Proc.devRef .tc r) = V (Proc.devRef .tc r) :=
  after_of_writes_sub hostOps0_2 V hostOps0_2_writes h

set_option maxRecDepth 100000 in
theorem hostOps0_v0 (V : Valuation τ sig (Elt Ideal)) : after hostOps0 V main_v0 = takeW (V main_arg0) (V main_arg5) := by
  after_results
  rfl

set_option maxRecDepth 100000 in
theorem hostOps0_1_v1 (V : Valuation τ sig (Elt Ideal)) : after hostOps0_1 V main_v1 = takeT (V main_arg1) (V main_arg6) := by
  after_results
  rfl

set_option maxRecDepth 100000 in
theorem hostOps0_2_v2 (V : Valuation τ sig (Elt Ideal)) : after hostOps0_2 V main_v2 = takeT (V main_arg2) (V main_arg7) := by
  after_results
  rfl

set_option maxRecDepth 100000 in
theorem hostOps0_3_0 (V : Valuation τ sig (Elt Ideal)) : after hostOps0_3 V main_v13_0 = fwdR (seqR (V main_v0) (V main_v1) (V main_v2)) := by
  after_results
  rfl

set_option maxRecDepth 100000 in
theorem hostOps0_3_1 (V : Valuation τ sig (Elt Ideal)) : after hostOps0_3 V main_v13_1 = bwdR (seqR (V main_v0) (V main_v1) (V main_v2)) := by
  after_results
  rfl

set_option maxRecDepth 100000 in
theorem hostOps0_3_2 (V : Valuation τ sig (Elt Ideal)) : after hostOps0_3 V main_v13_2 = V main_arg8 := by
  after_results
  rfl

set_option maxRecDepth 100000 in
theorem hostOps0_3_3 (V : Valuation τ sig (Elt Ideal)) : after hostOps0_3 V main_v13_3 = V main_arg10 := by
  after_results
  rfl

set_option maxRecDepth 100000 in
theorem hostOps0_3_4 (V : Valuation τ sig (Elt Ideal)) : after hostOps0_3 V main_v13_4 = V main_arg9 := by
  after_results
  rfl

set_option maxRecDepth 100000 in
theorem hostOps0_3_5 (V : Valuation τ sig (Elt Ideal)) : after hostOps0_3 V main_v13_5 = V main_arg11 := by
  after_results
  rfl

set_option maxRecDepth 100000 in
theorem hostOps0_3_6 (V : Valuation τ sig (Elt Ideal)) : after hostOps0_3 V main_v13_6 = V main_arg12 := by
  after_results
  rfl

set_option maxRecDepth 100000 in
theorem hostOps0_3_7 (V : Valuation τ sig (Elt Ideal)) : after hostOps0_3 V main_v13_7 = V main_arg14 := by
  after_results
  rfl

set_option maxRecDepth 100000 in
theorem hostOps0_3_8 (V : Valuation τ sig (Elt Ideal)) : after hostOps0_3 V main_v13_8 = V main_arg13 := by
  after_results
  rfl

set_option maxRecDepth 100000 in
theorem hostOps0_3_9 (V : Valuation τ sig (Elt Ideal)) : after hostOps0_3 V main_v13_9 = V main_arg15 := by
  after_results
  rfl

/-- The half `d` of the initial states. -/
def startF (h : FVec Ideal S2x16x512 .f32) : FVec Ideal S16x512 .f32 :=
  shapeCast S16x512 (extractStridedSlice S1x16x512 ![0, 0, 0] h slices_S2x16x512_S1x16x512_0_0_0) shapeCasts_S1x16x512_S16x512

def startB (h : FVec Ideal S2x16x512 .f32) : FVec Ideal S16x512 .f32 :=
  shapeCast S16x512 (extractStridedSlice S1x16x512 ![1, 0, 0] h slices_S2x16x512_S1x16x512_1_0_0) shapeCasts_S1x16x512_S16x512

theorem startF_apply (h : FVec Ideal S2x16x512 .f32) (a : Fin 16) (n : Fin 512) : startF h (ix2 a n) = h (ix3 0 a n) := by
  pointwise [startF]

theorem startB_apply (h : FVec Ideal S2x16x512 .f32) (a : Fin 16) (n : Fin 512) : startB h (ix2 a n) = h (ix3 1 a n) := by
  pointwise [startB]

set_option maxRecDepth 100000 in
theorem hostOps0_3_11 (V : Valuation τ sig (Elt Ideal)) : after hostOps0_3 V main_v13_11 = startF (V main_arg4) := by
  after_results
  rfl

set_option maxRecDepth 100000 in
theorem hostOps0_3_12 (V : Valuation τ sig (Elt Ideal)) : after hostOps0_3 V main_v13_12 = startB (V main_arg4) := by
  after_results
  rfl

theorem entry_rows : (entryContents preI m c main_v13_0 = fwdR (seqR (takeW (m (c.tc.loc main_arg0)) (m (c.tc.loc main_arg5))) (takeT (m (c.tc.loc main_arg1)) (m (c.tc.loc main_arg6))) (takeT (m (c.tc.loc main_arg2)) (m (c.tc.loc main_arg7))))) ∧ (entryContents preI m c main_v13_1 = bwdR (seqR (takeW (m (c.tc.loc main_arg0)) (m (c.tc.loc main_arg5))) (takeT (m (c.tc.loc main_arg1)) (m (c.tc.loc main_arg6))) (takeT (m (c.tc.loc main_arg2)) (m (c.tc.loc main_arg7))))) := by
  have h0 : after hostOps0_2 (after hostOps0_1 (after hostOps0 (launchContents m c))) main_v0 = takeW (m (c.tc.loc main_arg0)) (m (c.tc.loc main_arg5)) := by
    rw [keep2 _ main_v0 (by decide), keep1 _ main_v0 (by decide), hostOps0_v0]
  have h1 : after hostOps0_2 (after hostOps0_1 (after hostOps0 (launchContents m c))) main_v1 = takeT (m (c.tc.loc main_arg1)) (m (c.tc.loc main_arg6)) := by
    rw [keep2 _ main_v1 (by decide), hostOps0_1_v1, keep0 _ main_arg1 (by decide), keep0 _ main_arg6 (by decide)]
  have h2 : after hostOps0_2 (after hostOps0_1 (after hostOps0 (launchContents m c))) main_v2 = takeT (m (c.tc.loc main_arg2)) (m (c.tc.loc main_arg7)) := by
    rw [hostOps0_2_v2, keep1 _ main_arg2 (by decide), keep1 _ main_arg7 (by decide), keep0 _ main_arg2 (by decide), keep0 _ main_arg7 (by decide)]
  refine ⟨?_, ?_⟩
  · simp only [entryContents, afterL_cons, afterL_nil]
    rw [hostOps0_3_0, h0, h1, h2]
  · simp only [entryContents, afterL_cons, afterL_nil]
    rw [hostOps0_3_1, h0, h1, h2]

theorem entry_2 : entryContents preI m c main_v13_2 = m (c.tc.loc main_arg8) := by
  simp only [entryContents, afterL_cons, afterL_nil]
  rw [hostOps0_3_2, keep2 _ main_arg8 (by decide), keep1 _ main_arg8 (by decide), keep0 _ main_arg8 (by decide)]

theorem entry_3 : entryContents preI m c main_v13_3 = m (c.tc.loc main_arg10) := by
  simp only [entryContents, afterL_cons, afterL_nil]
  rw [hostOps0_3_3, keep2 _ main_arg10 (by decide), keep1 _ main_arg10 (by decide), keep0 _ main_arg10 (by decide)]

theorem entry_4 : entryContents preI m c main_v13_4 = m (c.tc.loc main_arg9) := by
  simp only [entryContents, afterL_cons, afterL_nil]
  rw [hostOps0_3_4, keep2 _ main_arg9 (by decide), keep1 _ main_arg9 (by decide), keep0 _ main_arg9 (by decide)]

theorem entry_5 : entryContents preI m c main_v13_5 = m (c.tc.loc main_arg11) := by
  simp only [entryContents, afterL_cons, afterL_nil]
  rw [hostOps0_3_5, keep2 _ main_arg11 (by decide), keep1 _ main_arg11 (by decide), keep0 _ main_arg11 (by decide)]

theorem entry_6 : entryContents preI m c main_v13_6 = m (c.tc.loc main_arg12) := by
  simp only [entryContents, afterL_cons, afterL_nil]
  rw [hostOps0_3_6, keep2 _ main_arg12 (by decide), keep1 _ main_arg12 (by decide), keep0 _ main_arg12 (by decide)]

theorem entry_7 : entryContents preI m c main_v13_7 = m (c.tc.loc main_arg14) := by
  simp only [entryContents, afterL_cons, afterL_nil]
  rw [hostOps0_3_7, keep2 _ main_arg14 (by decide), keep1 _ main_arg14 (by decide), keep0 _ main_arg14 (by decide)]

theorem entry_8 : entryContents preI m c main_v13_8 = m (c.tc.loc main_arg13) := by
  simp only [entryContents, afterL_cons, afterL_nil]
  rw [hostOps0_3_8, keep2 _ main_arg13 (by decide), keep1 _ main_arg13 (by decide), keep0 _ main_arg13 (by decide)]

theorem entry_9 : entryContents preI m c main_v13_9 = m (c.tc.loc main_arg15) := by
  simp only [entryContents, afterL_cons, afterL_nil]
  rw [hostOps0_3_9, keep2 _ main_arg15 (by decide), keep1 _ main_arg15 (by decide), keep0 _ main_arg15 (by decide)]

theorem entry_11 : entryContents preI m c main_v13_11 = startF (m (c.tc.loc main_arg4)) := by
  simp only [entryContents, afterL_cons, afterL_nil]
  rw [hostOps0_3_11, keep2 _ main_arg4 (by decide), keep1 _ main_arg4 (by decide), keep0 _ main_arg4 (by decide)]

theorem entry_12 : entryContents preI m c main_v13_12 = startB (m (c.tc.loc main_arg4)) := by
  simp only [entryContents, afterL_cons, afterL_nil]
  rw [hostOps0_3_12, keep2 _ main_arg4 (by decide), keep1 _ main_arg4 (by decide), keep0 _ main_arg4 (by decide)]

end Cert.ReferenceIdeal.Loop

end
-- ==== Proof.RefOut.lean ====
/- The reference's results at an index, from what its loop leaves. -/
module

public import proofs.«01_k».proof.Proof.RefLoop
public import Idealize.ShloMosaic.Lib.Pointwise
public import Idealize.ShloMosaic.Lib.IdealHost

@[expose] public section

set_option maxRecDepth 16384

noncomputable section

namespace Cert.ReferenceIdeal.Loop

open Cert.ReferenceIdeal Cert.ReferenceIdeal.Gen Cert.ReferenceIdeal.Value Cert.Math
open Idealize.ShloMosaic Idealize.ShloMosaic.Pointwise Idealize.ShloMosaic.TcCoe

variable (V : Valuation τ sig (Elt Ideal))

theorem negInf : Ideal.ofBits FTy.f32 0xFF800000#32 = ⊥ := by simp [Ideal.ofBits, Ideal.ieee]

/-! ## The softmax, a stage at a time -/

/-- Every row's largest logit, by one reduction, -/
def rdR (X : FVec Ideal S16x2046x251 .f32) : FVec Ideal S16x2046 .f32 :=
  Host.reduce FloatOps.maximumf X (constant S_ .f32 0xFF800000#32) reducesTo_S16x2046x251_S16x2046_d2 h_S_
/-- and compared with minus infinity once more. -/
def mxR (M : FVec Ideal S16x2046 .f32) : FVec Ideal S16x2046 .f32 :=
  maximumf (broadcastInDim S16x2046 ![] bcast_S_S16x2046 (constant S_ .f32 0xFF800000#32)) M
/-- The shifted exponentials. -/
def exR (X : FVec Ideal S16x2046x251 .f32) (M : FVec Ideal S16x2046 .f32) : FVec Ideal S16x2046x251 .f32 :=
  Host.exp (subf X (broadcastInDim S16x2046x251 ![0, 1, 2] bcast_S16x2046x1_S16x2046x251_0_1_2 (broadcastInDim S16x2046x1 ![0, 1] bcast_S16x2046_S16x2046x1_0_1 M)))
/-- Their sums. -/
def smR (E : FVec Ideal S16x2046x251 .f32) : FVec Ideal S16x2046 .f32 :=
  Host.reduceAdd E (constant S_ .f32 0x00000000#32) reducesTo_S16x2046x251_S16x2046_d2 h_S_
/-- The quotients. -/
def dvR (E : FVec Ideal S16x2046x251 .f32) (S : FVec Ideal S16x2046 .f32) : FVec Ideal S16x2046x251 .f32 :=
  Host.divf E (broadcastInDim S16x2046x251 ![0, 1, 2] bcast_S16x2046x1_S16x2046x251_0_1_2 (broadcastInDim S16x2046x1 ![0, 1] bcast_S16x2046_S16x2046x1_0_1 S))

theorem rdR_apply (X : FVec Ideal S16x2046x251 .f32) (a : Fin 16) (l : Fin 2046) :
    rdR X (ix2 a l) = Finset.fold max (Ideal.ofBits FTy.f32 0xFF800000#32) (fun n => X (ix3 a l n)) Finset.univ := by
  pointwise [rdR]
theorem mxR_apply (M : FVec Ideal S16x2046 .f32) (a : Fin 16) (l : Fin 2046) : mxR M (ix2 a l) = max (Ideal.ofBits FTy.f32 0xFF800000#32) (M (ix2 a l)) := by
  pointwise [mxR]
theorem exR_apply (X : FVec Ideal S16x2046x251 .f32) (M : FVec Ideal S16x2046 .f32) (a : Fin 16) (l : Fin 2046) (m : Fin 251) :
    exR X M (ix3 a l m) = Ideal.exp (X (ix3 a l m) - M (ix2 a l)) := by
  pointwise [exR]
theorem smR_apply (E : FVec Ideal S16x2046x251 .f32) (a : Fin 16) (l : Fin 2046) : smR E (ix2 a l) = ∑ n, E (ix3 a l n) := by
  pointwise [smR]
theorem dvR_apply (E : FVec Ideal S16x2046x251 .f32) (S : FVec Ideal S16x2046 .f32) (a : Fin 16) (l : Fin 2046) (m : Fin 251) :
    dvR E S (ix3 a l m) = Ideal.div (E (ix3 a l m)) (S (ix2 a l)) := by
  pointwise [dvR]

/-- The softmax the reference takes of its logits. -/
def softR (X : FVec Ideal S16x2046x251 .f32) : FVec Ideal S16x2046x251 .f32 := dvR (exR X (mxR (rdR X))) (smR (exR X (mxR (rdR X))))

theorem softR_apply (X : FVec Ideal S16x2046x251 .f32) (a : Fin 16) (l : Fin 2046) (m : Fin 251) :
    softR X (ix3 a l m) = Ideal.div (Ideal.exp (X (ix3 a l m) - top fun x => X (ix3 a l x))) (∑ n, Ideal.exp (X (ix3 a l n) - top fun x => X (ix3 a l x))) := by
  have e : mxR (rdR X) (ix2 a l) = top fun x => X (ix3 a l x) := by
    rw [mxR_apply, rdR_apply, negInf]
    exact max_eq_right bot_le
  unfold softR
  rw [dvR_apply, smR_apply]
  simp only [exR_apply, e]

theorem out36_eq : (out_main_v36 V : FVec Ideal S16x2046x251 .f32) = softR (out_main_v25 V) := by
  unfold out_main_v36 softR dvR smR exR mxR rdR out_main_v25
  with_reducible rfl

/-! ## The logits -/

/-- The logits of both directions' states. -/
def logR (X Y : FVec Ideal S2048x16x512 .f32) (W : FVec Ideal S251x1024 .f32) (b : FVec Ideal S251 .f32) : FVec Ideal S16x2046x251 .f32 :=
  addf (Host.dotGeneral dot_S16x2046x1024_S1024x251_S16x2046x251_2_0_01_1_n_n none (concatenate S16x2046x1024 2 [⟨S16x2046x512, (extractStridedSlice S16x2046x512 ![0, 0, 0] (concatenate S16x2048x1024 2 [⟨S16x2048x512, (transpose S16x2048x512 [1, 0, 2] X transposes_S2048x16x512_S16x2048x512_1_0_2)⟩, ⟨S16x2048x512, (Host.reverse [1] (transpose S16x2048x512 [1, 0, 2] Y transposes_S2048x16x512_S16x2048x512_1_0_2))⟩] concatenates_S16x2048x512_S16x2048x512_S16x2048x1024_d2) slices_S16x2048x1024_S16x2046x512_0_0_0)⟩, ⟨S16x2046x512, (extractStridedSlice S16x2046x512 ![0, 2, 512] (concatenate S16x2048x1024 2 [⟨S16x2048x512, (transpose S16x2048x512 [1, 0, 2] X transposes_S2048x16x512_S16x2048x512_1_0_2)⟩, ⟨S16x2048x512, (Host.reverse [1] (transpose S16x2048x512 [1, 0, 2] Y transposes_S2048x16x512_S16x2048x512_1_0_2))⟩] concatenates_S16x2048x512_S16x2048x512_S16x2048x1024_d2) slices_S16x2048x1024_S16x2046x512_0_2_512)⟩] concatenates_S16x2046x512_S16x2046x512_S16x2046x1024_d2) (transpose S1024x251 [1, 0] W transposes_S251x1024_S1024x251_1_0)) (broadcastInDim S16x2046x251 ![0, 1, 2] bcast_S1x1x251_S16x2046x251_0_1_2 (broadcastInDim S1x1x251 ![2] bcast_S251_S1x1x251_2 b))

theorem logR_apply (X Y : FVec Ideal S2048x16x512 .f32) (W : FVec Ideal S251x1024 .f32) (b : FVec Ideal S251 .f32) (a : Fin 16) (l : Fin 2046) (m : Fin 251) (hl hb) :
    logR X Y W b (ix3 a l m)
      = logit (fun x => X (ix3 ⟨l.val, hl⟩ a x)) (fun x => Y (ix3 ⟨2045 - l.val, hb⟩ a x)) (fun x => W (ix2 m (Fin.castAdd 512 x))) (fun x => W (ix2 m (Fin.natAdd 512 x)))
          (b (ix1 m)) := by
  pointwise [logR]
  unfold logit
  simp only [List.mem_singleton, one_ne_zero, zero_ne_one, OfNat.ofNat_ne_one, OfNat.one_ne_ofNat, ↓reduceIte]
  refine congrArg₂ (· + ·) (congrArg₂ (· + ·) rfl (Finset.sum_congr rfl fun x _ => congrArg₂ (· * ·) ?_ rfl)) rfl
  refine congrArg₂ (fun (t : Fin 2048) (z : Fin 512) => Y (ix3 t a z)) (Fin.ext ?_) (if_neg (by decide))
  show 2048 - (2 + l.val + 1) = 2045 - l.val
  omega

theorem out25_eq : (out_main_v25 V : FVec Ideal S16x2046x251 .f32) = logR (V main_v13_13) (V main_v13_14) (V main_arg16) (V main_arg17) := by
  unfold out_main_v25 logR
  rfl

end Cert.ReferenceIdeal.Loop

end
-- ==== Proof.RefVal.lean ====
/- The reference's two results are the two functions of its arguments. -/
module

public import proofs.«01_k».proof.Proof.RefIn
public import proofs.«01_k».proof.Proof.RefOut
public import proofs.«01_k».proof.Proof.Spec

@[expose] public section

set_option maxRecDepth 16384

noncomputable section

namespace Cert.ReferenceIdeal.Loop

open Cert.ReferenceIdeal Cert.ReferenceIdeal.Gen Cert.ReferenceIdeal.Value Cert.Math
open Idealize.ShloMosaic Idealize.ShloMosaic.Pointwise Idealize.ShloMosaic.TcCoe Idealize.ShloMosaic.StableHlo

variable (m : (ℓ : Loc nD τ sig) → Buf (Elt Ideal) ℓ) (c : Dev nD)

/-- The arguments as launched. -/
def args : Args where
  ids := m (c.tc.loc main_arg0)
  deps := m (c.tc.loc main_arg1)
  poss := m (c.tc.loc main_arg2)
  init := m (c.tc.loc main_arg4)
  words := m (c.tc.loc main_arg5)
  depT := m (c.tc.loc main_arg6)
  posT := m (c.tc.loc main_arg7)
  wF := m (c.tc.loc main_arg8)
  uF := m (c.tc.loc main_arg9)
  bF := m (c.tc.loc main_arg10)
  cF := m (c.tc.loc main_arg11)
  wB := m (c.tc.loc main_arg12)
  uB := m (c.tc.loc main_arg13)
  bB := m (c.tc.loc main_arg14)
  cB := m (c.tc.loc main_arg15)
  wL := m (c.tc.loc main_arg16)
  bL := m (c.tc.loc main_arg17)

variable {m c} (h : (args m c).Ok)

/-- The embedded sequence as the reference makes it. -/
theorem seq_eq (a : Fin 16) (s : Fin 2048) (q : Fin 384) :
    seqR (takeW (args m c).ids (args m c).words) (takeT (args m c).deps (args m c).depT) (takeT (args m c).poss (args m c).posT) (ix3 a s q) = Args.emb h a s q := by
  rw [seqR_apply]
  unfold Args.emb
  by_cases e : q.val < 128
  · rw [dif_pos e, dif_pos e, takeW_apply _ _ h.ids]
  · rw [dif_neg e, dif_neg e]
    by_cases e' : q.val - 128 < 128
    · rw [dif_pos e', dif_pos e', takeT_apply _ _ h.deps]
    · rw [dif_neg e', dif_neg e', takeT_apply _ _ h.poss]

theorem prod_eq (X : Vec Ideal S2048x16x384 .f32) (w : Vec Ideal S512x384 .f32) (b : Vec Ideal S512 .f32) (f : Fin 2048 → Fin 16 → Fin 384 → EReal) (e : ∀ s a q, X (ix3 s a q) = f s a q)
    (s : ℕ) (a : Fin 16) (n : Fin 512) : prod X w b s a n = if h : s < 2048 then (∑ q : Fin 384, f ⟨s, h⟩ a q * w (ix2 n q)) + b (ix1 n) else 0 := by
  unfold prod
  simp only [e]

theorem stF_eq : RF (entryContents preI m c) = Args.stF h := by
  unfold RF Args.stF
  rw [(entry_rows m c).1, entry_2, entry_3, entry_4, entry_5, entry_11]
  have e1 : prod (fwdR (seqR (takeW (args m c).ids (args m c).words) (takeT (args m c).deps (args m c).depT) (takeT (args m c).poss (args m c).posT))) (args m c).wF (args m c).bF = Args.inF h := by
    funext s a n
    exact prod_eq _ _ _ (fun s a q => Args.emb h a s q) (fun s a q => (fwdR_apply _ s a q).trans (seq_eq h _ _ q)) s a n
  have e2 : (fun a n => startF (args m c).init (ix2 a n)) = fun a n => (args m c).init (ix3 0 a n) := funext fun a => funext fun n => startF_apply _ a n
  exact congrArg₂ (fun x z => states x (fun q n => (args m c).uF (ix2 n q)) (fun n => (args m c).cF (ix1 n)) z) e1 e2

theorem stB_eq : RB (entryContents preI m c) = Args.stB h := by
  unfold RB Args.stB
  rw [(entry_rows m c).2, entry_6, entry_7, entry_8, entry_9, entry_12]
  have e1 : prod (bwdR (seqR (takeW (args m c).ids (args m c).words) (takeT (args m c).deps (args m c).depT) (takeT (args m c).poss (args m c).posT))) (args m c).wB (args m c).bB = Args.inB h := by
    funext s a n
    exact prod_eq _ _ _ (fun s a q => Args.emb h a ⟨2047 - s.val, by omega⟩ q) (fun s a q => (bwdR_apply _ s a q).trans (seq_eq h _ _ q)) s a n
  have e2 : (fun a n => startB (args m c).init (ix2 a n)) = fun a n => (args m c).init (ix3 1 a n) := funext fun a => funext fun n => startB_apply _ a n
  exact congrArg₂ (fun x z => states x (fun q n => (args m c).uB (ix2 n q)) (fun n => (args m c).cB (ix1 n)) z) e1 e2

/-- The first result. -/
theorem out25_apply (a : Fin 16) (l : Fin 2046) (n : Fin 251) :
    (out_main_v25 (STEP^[2048] (entryContents preI m c)) : FVec Ideal S16x2046x251 .f32) (ix3 a l n) = Args.out0 h a l n := by
  have b := before _ (ctr_entry m c) 2048 le_rfl
  rw [out25_eq, iter_main_arg16, iter_main_arg17]
  refine (logR_apply _ _ (args m c).wL (args m c).bL a l n (by omega) (by omega)).trans ?_
  unfold Args.out0
  rw [funext fun x => (b.outF ⟨l.val, by omega⟩ a x (by show l.val < 2048; omega)).trans (congrFun (congrFun (congrFun (stF_eq h) _) a) x),
    funext fun x => (b.outB ⟨2045 - l.val, by omega⟩ a x (by show 2045 - l.val < 2048; omega)).trans (congrFun (congrFun (congrFun (stB_eq h) _) a) x)]

/-- The second result. -/
theorem out36_apply (a : Fin 16) (l : Fin 2046) (n : Fin 251) :
    (out_main_v36 (STEP^[2048] (entryContents preI m c)) : FVec Ideal S16x2046x251 .f32) (ix3 a l n) = Args.out1 h a l n := by
  rw [out36_eq]
  refine (softR_apply _ a l n).trans ?_
  unfold Args.out1
  rw [funext fun x => out25_apply h a l x, out25_apply h a l n]
  exact congrArg (Ideal.div _) (Finset.sum_congr rfl fun x _ => by rw [out25_apply h a l x])

end Cert.ReferenceIdeal.Loop

end
-- ==== Proof.PreRange.lean ====
/- What the input predicate says of the arguments: every id is in its table, and the last layer's weights and bias are finite. -/
module

public import proofs.«01_k».proof.Proof.PreFacts
public import Idealize.ShloMosaic.Lib.ReduceAll
public import Idealize.ShloMosaic.Lib.Affine
public import Idealize.ShloMosaic.Lib.Pointwise
public import Idealize.ShloMosaic.Lib.IdealHost

@[expose] public section

set_option maxRecDepth 16384

namespace Cert.Pre_inputs_in_range

open Idealize.ShloMosaic

/-- A word between zero and `b`, both compared signed, is at most `b`. -/
theorem word_le (x : BitVec 32) (b : ℕ) (hb : b ≤ 1000) (h : IntOp.andi (IntOp.cmpi .sge x 0#32) (IntOp.cmpi .sle x (BitVec.ofNat 32 b)) = 1#1) : x.toNat ≤ b := by
  have both : ∀ p q : BitVec 1, IntOp.andi p q = 1#1 → p = 1#1 ∧ q = 1#1 := by decide
  obtain ⟨h1, h2⟩ := both _ _ h
  have h1 := IntOp.cmpi_sge.1 h1
  have h2 := IntOp.cmpi_sle.1 h2
  have e : (BitVec.ofNat 32 b).toInt = b := by
    rw [BitVec.toInt_eq_toNat_cond, BitVec.toNat_ofNat, Nat.mod_eq_of_lt (by omega)]
    rw [if_pos (by omega)]
  rw [e] at h2
  have e0 : (0#32 : BitVec 32).toInt = 0 := rfl
  rw [e0] at h1
  rw [BitVec.toInt_eq_toNat_cond] at h1 h2
  have := x.isLt
  split at h2 <;> omega

/-- A number strictly between the infinities is neither. -/
theorem finite_of (x : EReal) (h : IntOp.andi (Ideal.cmp .ogt x (Ideal.ofBits .f32 0xFF800000#32)) (Ideal.cmp .olt x (Ideal.ofBits .f32 0x7F800000#32)) = 1#1) : x ≠ ⊥ ∧ x ≠ ⊤ := by
  have both : ∀ p q : BitVec 1, IntOp.andi p q = 1#1 → p = 1#1 ∧ q = 1#1 := by decide
  obtain ⟨h1, h2⟩ := both _ _ h
  have e1 : Ideal.ofBits .f32 0xFF800000#32 = ⊥ := by simp [Ideal.ofBits, Ideal.ieee]
  have e2 : Ideal.ofBits .f32 0x7F800000#32 = ⊤ := by simp [Ideal.ofBits, Ideal.ieee]
  rw [e1] at h1
  rw [e2] at h2
  constructor
  · rintro rfl
    simp [Ideal.cmp] at h1
  · rintro rfl
    simp [Ideal.cmp] at h2

instance : Subsingleton S_.Idx := ⟨fun i j => funext fun a => a.elim0⟩

/-- The predicate, read. -/
theorem ranges [Facts] {a0 a1 a2 a3 : IVec S16x2048 32} {a4 : FVec Ideal S2x16x512 .f32} {a5 : FVec Ideal S251x128 .f32} {a6 a7 : FVec Ideal S51x128 .f32}
    {a8 : FVec Ideal S512x384 .f32} {a9 : FVec Ideal S512x512 .f32} {a10 a11 : FVec Ideal S512 .f32} {a12 : FVec Ideal S512x384 .f32} {a13 : FVec Ideal S512x512 .f32}
    {a14 a15 : FVec Ideal S512 .f32} {a16 : FVec Ideal S251x1024 .f32} {a17 : FVec Ideal S251 .f32}
    (h : fn (F := Ideal) a0 a1 a2 a3 a4 a5 a6 a7 a8 a9 a10 a11 a12 a13 a14 a15 a16 a17 = fun _ => 1#1) :
    (∀ i, (a0 i).toNat ≤ 250) ∧ (∀ i, (a1 i).toNat ≤ 50) ∧ (∀ i, (a2 i).toNat ≤ 50) ∧ (∀ i, a16 i ≠ ⊥ ∧ a16 i ≠ ⊤) ∧ ∀ i, a17 i ≠ ⊥ ∧ a17 i ≠ ⊤ := by
  have both : ∀ p q : BitVec 1, IntOp.andi p q = 1#1 → p = 1#1 ∧ q = 1#1 := by decide
  have h := congrFun h (Shape.Idx.first Facts.h_S_)
  dsimp only [fn, fn_part1, fn_part2] at h
  obtain ⟨h, h17⟩ := both _ _ h
  obtain ⟨h, h16⟩ := both _ _ h
  obtain ⟨h, h2⟩ := both _ _ h
  obtain ⟨h0, h1⟩ := both _ _ h
  exact ⟨fun i => word_le _ 250 (by norm_num) (Host.reduce_andi_all _ _ _ _ _ h0 i), fun i => word_le _ 50 (by norm_num) (Host.reduce_andi_all _ _ _ _ _ h1 i),
    fun i => word_le _ 50 (by norm_num) (Host.reduce_andi_all _ _ _ _ _ h2 i), fun i => finite_of _ (Host.reduce_andi_all _ _ _ _ _ h16 i),
    fun i => finite_of _ (Host.reduce_andi_all _ _ _ _ _ h17 i)⟩

end Cert.Pre_inputs_in_range

end
-- ==== Proof.Algebra.lean ====
/- The idealized kernel and the reference, run on the same arguments in range, end with the same two results. -/
module

public import proofs.«01_k».proof.Proof.Frames
public import proofs.«01_k».proof.Proof.KerOut
public import proofs.«01_k».proof.Proof.RefVal
public import proofs.«01_k».proof.Proof.PreRange

@[expose] public section

set_option maxRecDepth 16384

noncomputable section

namespace Cert.Frames

open Idealize.ShloMosaic Idealize.ShloMosaic.StableHlo Idealize.ShloMosaic.TcCoe Idealize.SL.Sem Cert.Math

/-- The memories of the two programs. -/
abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- The precondition puts the arguments in range. -/
theorem ok (m : KMem) (h : Pre_KernelIdeal_inputs_in_range (hPre_inputs_in_range := Cert.Pre_inputs_in_range.facts) m) (c : Dev Cert.KernelIdeal.nD) :
    (Cert.KernelIdeal.HostIn.args m c).Ok := by
  haveI := Cert.Pre_inputs_in_range.facts
  obtain ⟨h0, h1, h2, h3, h4⟩ := Cert.Pre_inputs_in_range.ranges (h c)
  exact ⟨h0, h1, h2, h3, h4⟩

/-- Equal arguments give equal results. -/
theorem results (m : KMem) (m' : RMem) (c : Dev Cert.KernelIdeal.nD) (e : Cert.ReferenceIdeal.Loop.args m' c = Cert.KernelIdeal.HostIn.args m c)
    (h : (Cert.KernelIdeal.HostIn.args m c).Ok) :
    Cert.ReferenceIdeal.Value.out_main_v25 (Cert.ReferenceIdeal.Value.STEP^[2048] (entryContents Cert.ReferenceIdeal.Value.preI m' c)) = Cert.KernelIdeal.Run.U7 m c Cert.KernelIdeal.main_v64
    ∧ Cert.ReferenceIdeal.Value.out_main_v36 (Cert.ReferenceIdeal.Value.STEP^[2048] (entryContents Cert.ReferenceIdeal.Value.preI m' c)) = Cert.KernelIdeal.Run.U7 m c Cert.KernelIdeal.main_v66 := by
  have h' : (Cert.ReferenceIdeal.Loop.args m' c).Ok := e ▸ h
  have e0 : ∀ a l n, Args.out0 h' a l n = Args.out0 h a l n := by
    generalize Cert.ReferenceIdeal.Loop.args m' c = P at e h'
    subst e
    exact fun _ _ _ => rfl
  have e1 : ∀ a l n, Args.out1 h' a l n = Args.out1 h a l n := by
    generalize Cert.ReferenceIdeal.Loop.args m' c = P at e h'
    subst e
    exact fun _ _ _ => rfl
  constructor
  · funext i
    rw [ValueIdx.eq_ix3 i]
    exact (Cert.ReferenceIdeal.Loop.out25_apply h' (i 0) (i 1) (i 2)).trans ((e0 _ _ _).trans (Cert.KernelIdeal.HostIn.out64_apply h (i 0) (i 1) (i 2)).symm)
  · funext i
    rw [ValueIdx.eq_ix3 i]
    exact (Cert.ReferenceIdeal.Loop.out36_apply h' (i 0) (i 1) (i 2)).trans ((e1 _ _ _).trans (Cert.KernelIdeal.HostIn.out66_apply h (i 0) (i 1) (i 2)).symm)

theorem algebraic : algebraic_KernelIdeal_ReferenceIdeal_pre_inputs_in_range (hKernelIdeal := Cert.KernelIdeal.Gen.facts)
    (hReferenceIdeal := Cert.ReferenceIdeal.Gen.facts) (hPre_inputs_in_range := Cert.Pre_inputs_in_range.facts) := by
  intro m g m' g' hpre hagree
  have e : ∀ c, Cert.ReferenceIdeal.Loop.args m' c = Cert.KernelIdeal.HostIn.args m c := fun c => by
    obtain ⟨h0, h1, h2, h3, h4, h5, h6, h7, h8, h9, h10, h11, h12, h13, h14, h15, h16, h17⟩ := hagree c
    simp only [Cert.ReferenceIdeal.Loop.args, Cert.KernelIdeal.HostIn.args, Args.mk.injEq]
    exact ⟨h0, h1, h2, h4, h5, h6, h7, h8, h9, h10, h11, h12, h13, h14, h15, h16, h17⟩
  refine ⟨fun c => Cert.KernelIdeal.Run.U7 m c Cert.KernelIdeal.main_v64, fun c => Cert.KernelIdeal.Run.U7 m c Cert.KernelIdeal.main_v66, ?_, ?_⟩
  · refine θ_run_mono (Cert.KernelIdeal.Run.run m g) fun r h c => ⟨h.1 c _ (by decide), h.1 c _ (by decide), ?_, ?_, ?_, ?_, ?_, ?_, ?_, ?_, ?_, ?_, ?_, ?_, ?_, ?_, ?_, ?_, ?_, ?_⟩ <;>
      exact (h.1 c _ (by decide)).trans (Cert.KernelIdeal.Run.U7_kept m c _ (by decide) (by decide) (by decide) (by decide) (by decide) (by decide) (by decide))
  · refine θ_run_mono (Cert.ReferenceIdeal.Value.run (F := Ideal) m' g') fun r h c => ?_
    obtain ⟨r0, r1⟩ := results m m' c (e c) (ok m hpre c)
    exact ⟨(h c).1.trans r0, (h c).2.1.trans r1, (h c).2.2⟩

end Cert.Frames

end
-- ==== Proof.lean ====
/- The claims, put together. -/
module

public import proofs.«01_k».proof.Defs
public import proofs.«01_k».proof.Proof.Frames
public import proofs.«01_k».proof.Proof.Algebra

@[expose] public section

noncomputable section

namespace Cert.Proof

theorem claim : Cert.Claim := ⟨Cert.Kernel.Gen.facts, Cert.KernelIdeal.Gen.facts, Cert.ReferenceIdeal.Gen.facts, Cert.Pre_inputs_in_range.facts,
  Frames.kernel, Frames.kernelIdeal, Frames.kernelIdeal_pre, Frames.reference, Frames.reference_pre, Frames.mask, Frames.algebraic⟩

end Cert.Proof

end
